-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_scaled [hPre_finite_and_scaled : Cert.Pre_finite_and_scaled.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_scaled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_and_scaled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_and_scaled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_and_scaled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_and_scaled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite_and_scaled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_scaled [hPre_finite_and_scaled : Cert.Pre_finite_and_scaled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_scaled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_and_scaled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_and_scaled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_and_scaled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite_and_scaled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite_and_scaled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_and_scaled [hKernelIdeal : Cert.KernelIdeal.Facts] [hPre_finite_and_scaled : Cert.Pre_finite_and_scaled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_scaled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_and_scaled [hReferenceIdeal : Cert.ReferenceIdeal.Facts] [hPre_finite_and_scaled : Cert.Pre_finite_and_scaled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_scaled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_and_scaled [hKernelIdeal : Cert.KernelIdeal.Facts] [hReferenceIdeal : Cert.ReferenceIdeal.Facts] [hPre_finite_and_scaled : Cert.Pre_finite_and_scaled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_scaled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8_1)) (v1 : (c : Dev Cert.KernelIdeal.nD) → Buf (Elt Ideal) ((c.tc : Thread Cert.KernelIdeal.nD Cert.KernelIdeal.τ).loc Cert.KernelIdeal.main_v8_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_1) = v0 c
          ∧ r.2.mem ((c.tc : Thread Cert.KernelIdeal.nD Cert.KernelIdeal.τ).loc Cert.KernelIdeal.main_v8_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_and_scaled : Cert.Pre_finite_and_scaled.Facts),
    quiescent_Kernel (hKernel := hKernel)
    ∧ quiescent_KernelIdeal (hKernelIdeal := hKernelIdeal)
    ∧ quiescent_KernelIdeal_pre_finite_and_scaled (hKernelIdeal := hKernelIdeal) (hPre_finite_and_scaled := hPre_finite_and_scaled)
    ∧ quiescent_ReferenceIdeal (hReferenceIdeal := hReferenceIdeal)
    ∧ quiescent_ReferenceIdeal_pre_finite_and_scaled (hReferenceIdeal := hReferenceIdeal) (hPre_finite_and_scaled := hPre_finite_and_scaled)
    ∧ preserves_Kernel_KernelIdeal
    ∧ algebraic_KernelIdeal_ReferenceIdeal_pre_finite_and_scaled (hKernelIdeal := hKernelIdeal) (hReferenceIdeal := hReferenceIdeal) (hPre_finite_and_scaled := hPre_finite_and_scaled)
-- ==== Pre_finite_and_scaled.lean ====
abbrev S512x256 : Shape := ⟨2, ![512, 256]⟩
abbrev S512x512x128 : Shape := ⟨3, ![512, 512, 128]⟩
abbrev S512x3 : Shape := ⟨2, ![512, 3]⟩
abbrev S128x15 : Shape := ⟨2, ![128, 15]⟩
abbrev S128 : Shape := ⟨1, ![128]⟩
abbrev S256 : Shape := ⟨1, ![256]⟩
abbrev S_ : Shape := ⟨0, ![]⟩

class Facts : Prop where
  bcast_S_S512x256 : S_.BroadcastsInDim S512x256 (![] : Fin 0 → Fin S512x256.rank)
  bcast_S_S512x3 : S_.BroadcastsInDim S512x3 (![] : Fin 0 → Fin S512x3.rank)
  bcast_S_S128x15 : S_.BroadcastsInDim S128x15 (![] : Fin 0 → Fin S128x15.rank)
  bcast_S_S128 : S_.BroadcastsInDim S128 (![] : Fin 0 → Fin S128.rank)

variable [Facts]

def fn_part1 {F : FTy → Type} [FloatOps F] (main_arg6 : FVec F S128 .f32) (main_v2 : IVec S512x256 1) (main_v5 : IVec S512x3 1) (main_v8 : IVec S128x15 1) (main_v11 : IVec S128 1) (main_v17 : IVec S128 1) : IVec S512x256 1 × IVec S512x3 1 × IVec S128x15 1 × IVec S128 1 × IVec S128 1 × IVec S128 1 :=
  let main_v18 : FVec F S128 .f32 := Host.absf main_arg6
  let main_cst_5 : FVec F S_ .f32 := constant S_ .f32 0x7F800000#32
  let main_v19 : FVec F S128 .f32 := broadcastInDim S128 ![] bcast_S_S128 main_cst_5
  let main_v20 : IVec S128 1 := cmpf .olt main_v18 main_v19
  (main_v2, main_v5, main_v8, main_v11, main_v17, main_v20)

def fn {F : FTy → Type} [FloatOps F] (main_arg0 : FVec F S512x256 .f32) (main_arg1 : FVec F S512x512x128 .f32) (main_arg2 : FVec F S512x3 .f32) (main_arg3 : FVec F S128x15 .f32) (main_arg4 : FVec F S128 .f32) (main_arg5 : FVec F S128 .f32) (main_arg6 : FVec F S128 .f32) (main_arg7 : FVec F S256 .f32) (main_arg8 : FVec F S256 .f32) : IVec S512x256 1 × IVec S512x3 1 × IVec S128x15 1 × IVec S128 1 × IVec S128 1 × IVec S128 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_v3 : FVec F S512x3 .f32 := Host.absf main_arg2
  let main_cst_0 : FVec F S_ .f32 := constant S_ .f32 0x7F800000#32
  let main_v4 : FVec F S512x3 .f32 := broadcastInDim S512x3 ![] bcast_S_S512x3 main_cst_0
  let main_v5 : IVec S512x3 1 := cmpf .olt main_v3 main_v4
  let main_v6 : FVec F S128x15 .f32 := Host.absf main_arg3
  let main_cst_1 : FVec F S_ .f32 := constant S_ .f32 0x7F800000#32
  let main_v7 : FVec F S128x15 .f32 := broadcastInDim S128x15 ![] bcast_S_S128x15 main_cst_1
  let main_v8 : IVec S128x15 1 := cmpf .olt main_v6 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_v12 : FVec F S128 .f32 := Host.absf main_arg5
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  let main_cst_4 : FVec F S_ .f32 := constant S_ .f32 0x00000000#32
  let main_v15 : FVec F S128 .f32 := broadcastInDim S128 ![] bcast_S_S128 main_cst_4
  let main_v16 : IVec S128 1 := cmpf .une main_arg5 main_v15
  let main_v17 : IVec S128 1 := andi main_v14 main_v16
  fn_part1 (F := F) main_arg6 main_v2 main_v5 main_v8 main_v11 main_v17
-- ==== Kernel.lean ====
abbrev S512x256 : Shape := ⟨2, ![512, 256]⟩
abbrev S512x512x128 : Shape := ⟨3, ![512, 512, 128]⟩
abbrev S512x3 : Shape := ⟨2, ![512, 3]⟩
abbrev S128x15 : Shape := ⟨2, ![128, 15]⟩
abbrev S128 : Shape := ⟨1, ![128]⟩
abbrev S256 : Shape := ⟨1, ![256]⟩
abbrev S15 : Shape := ⟨1, ![15]⟩
abbrev S3x512 : Shape := ⟨2, ![3, 512]⟩
abbrev S1x15 : Shape := ⟨2, ![1, 15]⟩
abbrev S15x128 : Shape := ⟨2, ![15, 128]⟩
abbrev S1x128 : Shape := ⟨2, ![1, 128]⟩
abbrev S1x256 : Shape := ⟨2, ![1, 256]⟩
abbrev S32x3 : Shape := ⟨2, ![32, 3]⟩
abbrev S32x512x128 : Shape := ⟨3, ![32, 512, 128]⟩
abbrev S32x1 : Shape := ⟨2, ![32, 1]⟩
abbrev S1x512 : Shape := ⟨2, ![1, 512]⟩
abbrev S32x512 : Shape := ⟨2, ![32, 512]⟩
abbrev S1x1x15 : Shape := ⟨3, ![1, 1, 15]⟩
abbrev S32x512x1 : Shape := ⟨3, ![32, 512, 1]⟩
abbrev S32x512x15 : Shape := ⟨3, ![32, 512, 15]⟩
abbrev S16384x15 : Shape := ⟨2, ![16384, 15]⟩
abbrev S14x128 : Shape := ⟨2, ![14, 128]⟩
abbrev S16384x128 : Shape := ⟨2, ![16384, 128]⟩
abbrev S128x128 : Shape := ⟨2, ![128, 128]⟩
abbrev S128x1 : Shape := ⟨2, ![128, 1]⟩
abbrev S256x256 : Shape := ⟨2, ![256, 256]⟩

abbrev nBuf : Space → Nat
  | .hbm => 20
  | .vmem => 16
  | .smem => 0
  | _ => 0

abbrev bufTy : (tb : Table) → Fin (tcTables nBuf tb) → BufTy
  | .hbm, ⟨0, _⟩ => ⟨S512x256, .f32⟩
  | .hbm, ⟨1, _⟩ => ⟨S512x512x128, .f32⟩
  | .hbm, ⟨2, _⟩ => ⟨S512x3, .f32⟩
  | .hbm, ⟨3, _⟩ => ⟨S128x15, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S256, .f32⟩
  | .hbm, ⟨8, _⟩ => ⟨S256, .f32⟩
  | .hbm, ⟨9, _⟩ => ⟨S15, .f32⟩
  | .hbm, ⟨10, _⟩ => ⟨S3x512, .f32⟩
  | .hbm, ⟨11, _⟩ => ⟨S1x15, .f32⟩
  | .hbm, ⟨12, _⟩ => ⟨S15x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S1x256, .f32⟩
  | .hbm, ⟨17, _⟩ => ⟨S1x256, .f32⟩
  | .hbm, ⟨18, _⟩ => ⟨S512x512x128, .f32⟩
  | .hbm, ⟨19, _⟩ => ⟨S512x256, .f32⟩
  | .local _ .vmem, ⟨0, _⟩ => ⟨S3x512, .f32⟩
  | .local _ .vmem, ⟨1, _⟩ => ⟨S32x3, .f32⟩
  | .local _ .vmem, ⟨2, _⟩ => ⟨S32x3, .f32⟩
  | .local _ .vmem, ⟨3, _⟩ => ⟨S1x15, .f32⟩
  | .local _ .vmem, ⟨4, _⟩ => ⟨S15x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S512x256, .f32⟩
  | .local _ .vmem, ⟨9, _⟩ => ⟨S1x256, .f32⟩
  | .local _ .vmem, ⟨10, _⟩ => ⟨S1x256, .f32⟩
  | .local _ .vmem, ⟨11, _⟩ => ⟨S32x512x128, .f32⟩
  | .local _ .vmem, ⟨12, _⟩ => ⟨S32x512x128, .f32⟩
  | .local _ .vmem, ⟨13, _⟩ => ⟨S32x512x128, .f32⟩
  | .local _ .vmem, ⟨14, _⟩ => ⟨S32x512x128, .f32⟩
  | .local _ .vmem, ⟨15, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_26 : BitVec 32 := 0#32
  let v93 : BitVec 1 := Scalar.cmpi .eq arg0 c0_i32_26
  let v94 : BitVec 32 := Scalar.extui v93
  let c0_i32_27 : BitVec 32 := 0#32
  let v95 : BitVec 1 := Scalar.cmpi .ne v94 c0_i32_27
  v95

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x15 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S15x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S32x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S512x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S512x256 : Shape := ⟨2, ![512, 256]⟩
abbrev S512x512x128 : Shape := ⟨3, ![512, 512, 128]⟩
abbrev S512x3 : Shape := ⟨2, ![512, 3]⟩
abbrev S128x15 : Shape := ⟨2, ![128, 15]⟩
abbrev S128 : Shape := ⟨1, ![128]⟩
abbrev S256 : Shape := ⟨1, ![256]⟩
abbrev S1 : Shape := ⟨1, ![1]⟩
abbrev S14 : Shape := ⟨1, ![14]⟩
abbrev S_ : Shape := ⟨0, ![]⟩
abbrev S15 : Shape := ⟨1, ![15]⟩
abbrev S512x1x3 : Shape := ⟨3, ![512, 1, 3]⟩
abbrev S1x512x3 : Shape := ⟨3, ![1, 512, 3]⟩
abbrev S512x512x3 : Shape := ⟨3, ![512, 512, 3]⟩
abbrev S512x512 : Shape := ⟨2, ![512, 512]⟩
abbrev S512x512x1 : Shape := ⟨3, ![512, 512, 1]⟩
abbrev S1x1x15 : Shape := ⟨3, ![1, 1, 15]⟩
abbrev S512x512x15 : Shape := ⟨3, ![512, 512, 15]⟩
abbrev S15x128 : Shape := ⟨2, ![15, 128]⟩
abbrev S1x1x128 : Shape := ⟨3, ![1, 1, 128]⟩
abbrev S512 : Shape := ⟨1, ![512]⟩
abbrev S512x1 : Shape := ⟨2, ![512, 1]⟩
abbrev S1x256 : Shape := ⟨2, ![1, 256]⟩

abbrev nBuf : Space → Nat
  | .hbm => 108
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x512x128, .f32⟩
  | .hbm, ⟨2, _⟩ => ⟨S512x3, .f32⟩
  | .hbm, ⟨3, _⟩ => ⟨S128x15, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S256, .f32⟩
  | .hbm, ⟨8, _⟩ => ⟨S256, .f32⟩
  | .hbm, ⟨9, _⟩ => ⟨S1, .f32⟩
  | .hbm, ⟨10, _⟩ => ⟨S14, .f32⟩
  | .hbm, ⟨11, _⟩ => ⟨S_, .f32⟩
  | .hbm, ⟨12, _⟩ => ⟨S14, .f32⟩
  | .hbm, ⟨13, _⟩ => ⟨S14, .f32⟩
  | .hbm, ⟨14, _⟩ => ⟨S_, .f32⟩
  | .hbm, ⟨15, _⟩ => ⟨S14, .f32⟩
  | .hbm, ⟨16, _⟩ => ⟨S14, .f32⟩
  | .hbm, ⟨17, _⟩ => ⟨S15, .f32⟩
  | .hbm, ⟨18, _⟩ => ⟨S512x1x3, .f32⟩
  | .hbm, ⟨19, _⟩ => ⟨S1x512x3, .f32⟩
  | .hbm, ⟨20, _⟩ => ⟨S512x512x3, .f32⟩
  | .hbm, ⟨21, _⟩ => ⟨S512x512x3, .f32⟩
  | .hbm, ⟨22, _⟩ => ⟨S512x512x3, .f32⟩
  | .hbm, ⟨23, _⟩ => ⟨S512x512x3, .f32⟩
  | .hbm, ⟨24, _⟩ => ⟨S_, .f32⟩
  | .hbm, ⟨25, _⟩ => ⟨S512x512, .f32⟩
  | .hbm, ⟨26, _⟩ => ⟨S512x512, .f32⟩
  | .hbm, ⟨27, _⟩ => ⟨S512x512x1, .f32⟩
  | .hbm, ⟨28, _⟩ => ⟨S1x1x15, .f32⟩
  | .hbm, ⟨29, _⟩ => ⟨S512x512x15, .f32⟩
  | .hbm, ⟨30, _⟩ => ⟨S512x512x15, .f32⟩
  | .hbm, ⟨31, _⟩ => ⟨S512x512x15, .f32⟩
  | .hbm, ⟨32, _⟩ => ⟨S512x512x15, .f32⟩
  | .hbm, ⟨33, _⟩ => ⟨S512x512x15, .i32⟩
  | .hbm, ⟨34, _⟩ => ⟨S_, .f32⟩
  | .hbm, ⟨35, _⟩ => ⟨S_, .i32⟩
  | .hbm, ⟨36, _⟩ => ⟨S512x512, .f32⟩
  | .hbm, ⟨37, _⟩ => ⟨S512x512, .i32⟩
  | .hbm, ⟨38, _⟩ => ⟨S512x512x1, .i32⟩
  | .hbm, ⟨39, _⟩ => ⟨S1x1x15, .i32⟩
  | .hbm, ⟨40, _⟩ => ⟨S512x512x15, .i32⟩
  | .hbm, ⟨41, _⟩ => ⟨S512x512x15, .i32⟩
  | .hbm, ⟨42, _⟩ => ⟨S512x512x15, .i1⟩
  | .hbm, ⟨43, _⟩ => ⟨S512x512x15, .f32⟩
  | .hbm, ⟨44, _⟩ => ⟨S15x128, .f32⟩
  | .hbm, ⟨45, _⟩ => ⟨S512x512x128, .f32⟩
  | .hbm, ⟨46, _⟩ => ⟨S1x1x128, .f32⟩
  | .hbm, ⟨47, _⟩ => ⟨S512x512x128, .f32⟩
  | .hbm, ⟨48, _⟩ => ⟨S512x512x128, .f32⟩
  | .hbm, ⟨49, _⟩ => ⟨S_, .f32⟩
  | .hbm, ⟨50, _⟩ => ⟨S512x512, .f32⟩
  | .hbm, ⟨51, _⟩ => ⟨S512x512x1, .f32⟩
  | .hbm, ⟨52, _⟩ => ⟨S_, .f32⟩
  | .hbm, ⟨53, _⟩ => ⟨S512x512x1, .f32⟩
  | .hbm, ⟨54, _⟩ => ⟨S512x512x1, .f32⟩
  | .hbm, ⟨55, _⟩ => ⟨S512x512x128, .f32⟩
  | .hbm, ⟨56, _⟩ => ⟨S512x512x128, .f32⟩
  | .hbm, ⟨57, _⟩ => ⟨S512x512x128, .f32⟩
  | .hbm, ⟨58, _⟩ => ⟨S_, .f32⟩
  | .hbm, ⟨59, _⟩ => ⟨S512x512, .f32⟩
  | .hbm, ⟨60, _⟩ => ⟨S512x512x1, .f32⟩
  | .hbm, ⟨61, _⟩ => ⟨S_, .f32⟩
  | .hbm, ⟨62, _⟩ => ⟨S512x512x1, .f32⟩
  | .hbm, ⟨63, _⟩ => ⟨S512x512x1, .f32⟩
  | .hbm, ⟨64, _⟩ => ⟨S512x512x128, .f32⟩
  | .hbm, ⟨65, _⟩ => ⟨S512x512x128, .f32⟩
  | .hbm, ⟨66, _⟩ => ⟨S_, .f32⟩
  | .hbm, ⟨67, _⟩ => ⟨S512x512x1, .f32⟩
  | .hbm, ⟨68, _⟩ => ⟨S512x512x1, .f32⟩
  | .hbm, ⟨69, _⟩ => ⟨S512x512x1, .f32⟩
  | .hbm, ⟨70, _⟩ => ⟨S512x512x128, .f32⟩
  | .hbm, ⟨71, _⟩ => ⟨S512x512x128, .f32⟩
  | .hbm, ⟨72, _⟩ => ⟨S1x1x128, .f32⟩
  | .hbm, ⟨73, _⟩ => ⟨S512x512x128, .f32⟩
  | .hbm, ⟨74, _⟩ => ⟨S512x512x128, .f32⟩
  | .hbm, ⟨75, _⟩ => ⟨S1x1x128, .f32⟩
  | .hbm, ⟨76, _⟩ => ⟨S512x512x128, .f32⟩
  | .hbm, ⟨77, _⟩ => ⟨S512x512x128, .f32⟩
  | .hbm, ⟨78, _⟩ => ⟨S512x512x128, .f32⟩
  | .hbm, ⟨79, _⟩ => ⟨S_, .f32⟩
  | .hbm, ⟨80, _⟩ => ⟨S512, .f32⟩
  | .hbm, ⟨81, _⟩ => ⟨S512x1, .f32⟩
  | .hbm, ⟨82, _⟩ => ⟨S_, .f32⟩
  | .hbm, ⟨83, _⟩ => ⟨S512x1, .f32⟩
  | .hbm, ⟨84, _⟩ => ⟨S512x1, .f32⟩
  | .hbm, ⟨85, _⟩ => ⟨S512x256, .f32⟩
  | .hbm, ⟨86, _⟩ => ⟨S512x256, .f32⟩
  | .hbm, ⟨87, _⟩ => ⟨S512x256, .f32⟩
  | .hbm, ⟨88, _⟩ => ⟨S_, .f32⟩
  | .hbm, ⟨89, _⟩ => ⟨S512, .f32⟩
  | .hbm, ⟨90, _⟩ => ⟨S512x1, .f32⟩
  | .hbm, ⟨91, _⟩ => ⟨S_, .f32⟩
  | .hbm, ⟨92, _⟩ => ⟨S512x1, .f32⟩
  | .hbm, ⟨93, _⟩ => ⟨S512x1, .f32⟩
  | .hbm, ⟨94, _⟩ => ⟨S512x256, .f32⟩
  | .hbm, ⟨95, _⟩ => ⟨S512x256, .f32⟩
  | .hbm, ⟨96, _⟩ => ⟨S_, .f32⟩
  | .hbm, ⟨97, _⟩ => ⟨S512x1, .f32⟩
  | .hbm, ⟨98, _⟩ => ⟨S512x1, .f32⟩
  | .hbm, ⟨99, _⟩ => ⟨S512x1, .f32⟩
  | .hbm, ⟨100, _⟩ => ⟨S512x256, .f32⟩
  | .hbm, ⟨101, _⟩ => ⟨S512x256, .f32⟩
  | .hbm, ⟨102, _⟩ => ⟨S1x256, .f32⟩
  | .hbm, ⟨103, _⟩ => ⟨S512x256, .f32⟩
  | .hbm, ⟨104, _⟩ => ⟨S512x256, .f32⟩
  | .hbm, ⟨105, _⟩ => ⟨S1x256, .f32⟩
  | .hbm, ⟨106, _⟩ => ⟨S512x256, .f32⟩
  | .hbm, ⟨107, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call0_v0 : Ref sig .tc := ⟨.hbm, 23, rfl⟩
abbrev main_call0_cst : Ref sig .tc := ⟨.hbm, 24, rfl⟩
abbrev main_call0_v1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call1_v0 : Ref sig .tc := ⟨.hbm, 33, rfl⟩
abbrev main_call1_cst : Ref sig .tc := ⟨.hbm, 34, rfl⟩
abbrev main_call1_c : Ref sig .tc := ⟨.hbm, 35, rfl⟩
abbrev main_call1_v1_0 : Ref sig .tc := ⟨.hbm, 36, rfl⟩
abbrev main_v18 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_2 : Ref sig .tc := ⟨.hbm, 49, rfl⟩
abbrev main_v25 : Ref sig .tc := ⟨.hbm, 50, rfl⟩
abbrev main_v26 : Ref sig .tc := ⟨.hbm, 51, rfl⟩
abbrev main_cst_3 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_4 : Ref sig .tc := ⟨.hbm, 58, rfl⟩
abbrev main_v32 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_7 : Ref sig .tc := ⟨.hbm, 79, rfl⟩
abbrev main_v50 : Ref sig .tc := ⟨.hbm, 80, rfl⟩
abbrev main_v51 : Ref sig .tc := ⟨.hbm, 81, rfl⟩
abbrev main_cst_8 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_9 : Ref sig .tc := ⟨.hbm, 88, rfl⟩
abbrev main_v57 : Ref sig .tc := ⟨.hbm, 89, rfl⟩
abbrev main_v58 : Ref sig .tc := ⟨.hbm, 90, rfl⟩
abbrev main_cst_10 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_11 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩

abbrev nD : Nat := 1
abbrev τ : Topo := Topo.v7x

variable {F : FTy → Type} [FloatOps F]
-- ==== Proof.Launch.Setup.lean ====
/- What the two runs of the kernel body share: the block of each result as a function of the input blocks, the branch
   the body takes at each grid point, and the staging memory of every window. -/
module

public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.Value
public import Idealize.ShloMosaic.Lib.Claim

@[expose] public section

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block of the pair result that one grid point stores, from the blocks it loads: the transposed coordinates, the
    point's 32 rows of coordinates, the squared midpoints, the transposed weights, the bias, the gain, the shift and the
    pair block. -/
def pairBlock (x0 : Vec F S3x512 .f32) (x1 : Vec F S32x3 .f32) (x2 : Vec F S1x15 .f32) (x3 : Vec F S15x128 .f32)
    (x4 x5 x6 : Vec F S1x128 .f32) (x10 : Vec F S32x512x128 .f32) : Vec F S32x512x128 .f32 :=
  k0_pay5 (k0_pay2 x0 x1 x2) (k0_pay3 x3 x4 x6) (k0_pay4 x3 x4 x6) x5 x10

/-- The msa result, from the msa array, its gain and its shift. -/
def msaBlock (x7 : Vec F S512x256 .f32) (x8 x9 : Vec F S1x256 .f32) : Vec F S512x256 .f32 := k0_pay1 x7 x8 x9

/-- The condition under which the body stores the msa result. -/
abbrev atFirst (i : grid0.Coords) : Prop := k0_cond1 i = 1#1

/-- It holds at the first grid point and nowhere else. -/
theorem atFirst_iff : ∀ t : Fin cfg0.N, atFirst (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    have e1 : t.val = 0 ↔ t.val % 16 = 0 := by omega
    rw [e1]
    simp only [atFirst, k0_cond1, e0]
    word_cmp
   : ∀ t : Fin grid0.N, atFirst (grid0.coords t) ↔ t.val = 0)

/-- The staging memory of window 0 at a grid point. -/
abbrev st0 (t : Fin cfg0.N) : Memref sig .tc .vmem S3x512 .f32 := win0_0.stage (cfg0.slots t 0)
/-- The staging memory of window 1 at a grid point. -/
abbrev st1 (t : Fin cfg0.N) : Memref sig .tc .vmem S32x3 .f32 := win0_1.stage (cfg0.slots t 1)
/-- The staging memory of window 2 at a grid point. -/
abbrev st2 (t : Fin cfg0.N) : Memref sig .tc .vmem S1x15 .f32 := win0_2.stage (cfg0.slots t 2)
/-- The staging memory of window 3 at a grid point. -/
abbrev st3 (t : Fin cfg0.N) : Memref sig .tc .vmem S15x128 .f32 := win0_3.stage (cfg0.slots t 3)
/-- The staging memory of window 4 at a grid point. -/
abbrev st4 (t : Fin cfg0.N) : Memref sig .tc .vmem S1x128 .f32 := win0_4.stage (cfg0.slots t 4)
/-- The staging memory of window 5 at a grid point. -/
abbrev st5 (t : Fin cfg0.N) : Memref sig .tc .vmem S1x128 .f32 := win0_5.stage (cfg0.slots t 5)
/-- The staging memory of window 6 at a grid point. -/
abbrev st6 (t : Fin cfg0.N) : Memref sig .tc .vmem S1x128 .f32 := win0_6.stage (cfg0.slots t 6)
/-- The staging memory of window 7 at a grid point. -/
abbrev st7 (t : Fin cfg0.N) : Memref sig .tc .vmem S512x256 .f32 := win0_7.stage (cfg0.slots t 7)
/-- The staging memory of window 8 at a grid point. -/
abbrev st8 (t : Fin cfg0.N) : Memref sig .tc .vmem S1x256 .f32 := win0_8.stage (cfg0.slots t 8)
/-- The staging memory of window 9 at a grid point. -/
abbrev st9 (t : Fin cfg0.N) : Memref sig .tc .vmem S1x256 .f32 := win0_9.stage (cfg0.slots t 9)
/-- The staging memory of window 10 at a grid point. -/
abbrev st10 (t : Fin cfg0.N) : Memref sig .tc .vmem S32x512x128 .f32 := win0_10.stage (cfg0.slots t 10)
/-- The staging memory of window 11 at a grid point. -/
abbrev st11 (t : Fin cfg0.N) : Memref sig .tc .vmem S32x512x128 .f32 := win0_11.stage (cfg0.slots t 11)
/-- The staging memory of window 12 at a grid point. -/
abbrev st12 (t : Fin cfg0.N) : Memref sig .tc .vmem S512x256 .f32 := win0_12.stage (cfg0.slots t 12)

/-- The zero offset of a matrix. -/
theorem zero2 : (![0, 0] : Fin 2 → Nat) = fun _ => 0 := by funext a; fin_cases a <;> rfl

/-- The zero offset of an array of three axes. -/
theorem zero3 : (![0, 0, 0] : Fin 3 → Nat) = fun _ => 0 := by funext a; fin_cases a <;> rfl

end Cert.KernelIdeal.Launch

end
-- ==== Proof.Launch.RunFirst.lean ====
/- The body at the first grid point: from the input blocks it leaves the pair block and the msa result. -/
module

public import proofs.«01_k».proof.Proof.Launch.Setup

@[expose] public section

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first grid point: from the input blocks it leaves the pair block and the msa result. -/
theorem runFirst (c : Dev nD) (i : grid0.Coords) (a0 : Memref sig .tc .vmem S3x512 .f32) (h0 : a0.IsWhole) (a1 : Memref sig .tc .vmem S32x3 .f32) (h1 : a1.IsWhole) (a2 : Memref sig .tc .vmem S1x15 .f32) (h2 : a2.IsWhole) (a3 : Memref sig .tc .vmem S15x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S512x256 .f32) (h7 : a7.IsWhole) (a8 : Memref sig .tc .vmem S1x256 .f32) (h8 : a8.IsWhole) (a9 : Memref sig .tc .vmem S1x256 .f32) (h9 : a9.IsWhole) (a10 : Memref sig .tc .vmem S32x512x128 .f32) (h10 : a10.IsWhole) (a11 : Memref sig .tc .vmem S32x512x128 .f32) (h11 : a11.IsWhole) (a12 : Memref sig .tc .vmem S512x256 .f32) (h12 : a12.IsWhole)
    (hc0 : atFirst i) (x0 : Vec F S3x512 .f32) (x1 : Vec F S32x3 .f32) (x2 : Vec F S1x15 .f32) (x3 : Vec F S15x128 .f32) (x4 : Vec F S1x128 .f32) (x5 : Vec F S1x128 .f32) (x6 : Vec F S1x128 .f32) (x7 : Vec F S512x256 .f32) (x8 : Vec F S1x256 .f32) (x9 : Vec F S1x256 .f32) (x10 : Vec F S32x512x128 .f32) :
    ∀ (E : Set ℕ) (K : PUnit → sProp 𝕄),
      iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d) ∗ (∃ d, owns (c : Thread nD τ) a12 fullShare d)
          ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare (pairBlock x0 x1 x2 x3 x4 x5 x6 x10) ∗ owns (c : Thread nD τ) a12 fullShare (msaBlock x7 x8 x9)) -∗ K ⟨⟩))
        ⊢ wp frame (wpE (defs₀ (F := F)) Variants.none c none) E (cc0__pair_body i a0 h0 a1 h1 a2 h2 a3 h3 a4 h4 a5 h5 a6 h6 a7 h7 a8 h8 a9 h9 a10 h10 a11 h11 a12 h12) K := by
  intro E K
  simp only [cc0__pair_body_eq_skeleton]; unfold cc0__pair_body_skel
  simp only [k0_part1_eq_skeleton, k0_part2_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%d11, %f11, -, H11⟩, ⟨%d12, %f12, -, H12⟩, Hk⟩
  obtain rfl := h0.eq_unread e0
  obtain rfl := h1.eq_unread e1
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h10.eq_unread e10
  sl_exec (disch := first | sl_exact hc0)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _; isplitr; swap; · iexact H11
    ipureintro
    sl_unfold_words
    rw [View.read_writes_eq_canon _ _ _ (fun y => ⟨_, List.mem_singleton_self _, by
      exact View.mem_set_unit_zero (S := S32x512x128) zero3 inb_S32x512x128_S32x512x128_0_0_0 y⟩), View.canon_unit_zero (S := S32x512x128) zero3]
    simp only [View.readAt_eq_ld, h0.read_unread, h1.read_unread, h2.read_unread, h3.read_unread, h4.read_unread, h5.read_unread, h6.read_unread, h10.read_unread, View.ld_unit_zero (S := S3x512) zero2, View.ld_unit_zero (S := S32x3) zero2, View.ld_unit_zero (S := S1x15) zero2, View.ld_unit_zero (S := S15x128) zero2, View.ld_unit_zero (S := S1x128) zero2, View.ld_unit_zero (S := S32x512x128) zero3]
    rfl
  iexists _; isplitr; swap; · iexact H12
  ipureintro
  sl_unfold_words
  rw [View.read_writes_eq_canon _ _ _ (fun y => ⟨_, List.mem_singleton_self _, by
    exact View.mem_set_unit_zero (S := S512x256) zero2 inb_S512x256_S512x256_0_0 y⟩), View.canon_unit_zero (S := S512x256) zero2]
  simp only [View.readAt_eq_ld, h7.read_unread, h8.read_unread, h9.read_unread, View.ld_unit_zero (S := S512x256) zero2, View.ld_unit_zero (S := S1x256) zero2]
  rfl

end Cert.KernelIdeal.Launch

end
-- ==== Proof.Launch.RunLater.lean ====
/- The body at a later grid point: from the input blocks it leaves the pair block, and the msa result as it found it. -/
module

public import proofs.«01_k».proof.Proof.Launch.RunFirst

@[expose] public section

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a later grid point: from the input blocks it leaves the pair block, and the msa result as it found it. -/
theorem runLater (c : Dev nD) (i : grid0.Coords) (a0 : Memref sig .tc .vmem S3x512 .f32) (h0 : a0.IsWhole) (a1 : Memref sig .tc .vmem S32x3 .f32) (h1 : a1.IsWhole) (a2 : Memref sig .tc .vmem S1x15 .f32) (h2 : a2.IsWhole) (a3 : Memref sig .tc .vmem S15x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S512x256 .f32) (h7 : a7.IsWhole) (a8 : Memref sig .tc .vmem S1x256 .f32) (h8 : a8.IsWhole) (a9 : Memref sig .tc .vmem S1x256 .f32) (h9 : a9.IsWhole) (a10 : Memref sig .tc .vmem S32x512x128 .f32) (h10 : a10.IsWhole) (a11 : Memref sig .tc .vmem S32x512x128 .f32) (h11 : a11.IsWhole) (a12 : Memref sig .tc .vmem S512x256 .f32) (h12 : a12.IsWhole)
    (hc0 : ¬ atFirst i) (x0 : Vec F S3x512 .f32) (x1 : Vec F S32x3 .f32) (x2 : Vec F S1x15 .f32) (x3 : Vec F S15x128 .f32) (x4 : Vec F S1x128 .f32) (x5 : Vec F S1x128 .f32) (x6 : Vec F S1x128 .f32) (x7 : Vec F S512x256 .f32) (x8 : Vec F S1x256 .f32) (x9 : Vec F S1x256 .f32) (x10 : Vec F S32x512x128 .f32) (x12 : Vec F S512x256 .f32) :
    ∀ (E : Set ℕ) (K : PUnit → sProp 𝕄),
      iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d) ∗ owns (c : Thread nD τ) a12 fullShare x12
          ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare (pairBlock x0 x1 x2 x3 x4 x5 x6 x10) ∗ owns (c : Thread nD τ) a12 fullShare x12) -∗ K ⟨⟩))
        ⊢ wp frame (wpE (defs₀ (F := F)) Variants.none c none) E (cc0__pair_body i a0 h0 a1 h1 a2 h2 a3 h3 a4 h4 a5 h5 a6 h6 a7 h7 a8 h8 a9 h9 a10 h10 a11 h11 a12 h12) K := by
  intro E K
  simp only [cc0__pair_body_eq_skeleton]; unfold cc0__pair_body_skel
  simp only [k0_part1_eq_skeleton, k0_part2_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%d11, %f11, -, H11⟩, ⟨%f12, %e12, H12⟩, Hk⟩
  obtain rfl := h0.eq_unread e0
  obtain rfl := h1.eq_unread e1
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h10.eq_unread e10
  obtain rfl := h12.eq_unread e12
  sl_exec (disch := first | sl_exact hc0)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _; isplitr; swap; · iexact H11
    ipureintro
    sl_unfold_words
    rw [View.read_writes_eq_canon _ _ _ (fun y => ⟨_, List.mem_singleton_self _, by
      exact View.mem_set_unit_zero (S := S32x512x128) zero3 inb_S32x512x128_S32x512x128_0_0_0 y⟩), View.canon_unit_zero (S := S32x512x128) zero3]
    simp only [View.readAt_eq_ld, h0.read_unread, h1.read_unread, h2.read_unread, h3.read_unread, h4.read_unread, h5.read_unread, h6.read_unread, h10.read_unread, View.ld_unit_zero (S := S3x512) zero2, View.ld_unit_zero (S := S32x3) zero2, View.ld_unit_zero (S := S1x15) zero2, View.ld_unit_zero (S := S15x128) zero2, View.ld_unit_zero (S := S1x128) zero2, View.ld_unit_zero (S := S32x512x128) zero3]
    rfl
  iexists _; isplitr; · ipureintro; exact h12.read_unread _
  iexact H12

end Cert.KernelIdeal.Launch

end
-- ==== Proof.Launch.Frame.lean ====
/- The launch of the kernel: what every staging buffer holds after the body at each grid point, the body's obligation at
   every point, and the run it gives: every array of the pipeline ends at the fold of the blocks written back. -/
module

public import proofs.«01_k».proof.Proof.Launch.RunLater

@[expose] public section

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
abbrev firstPoint : Fin cfg0.N := ⟨0, by rw [show cfg0.N = 16 from N_0]; decide⟩

/-- The pair block a grid point stores, from the blocks of the input arrays there. -/
def pairAt (c : Dev nD) (t : Fin cfg0.N) : Vec F S32x512x128 .f32 :=
  pairBlock (iblk m c 0 t) (iblk m c 1 t) (iblk m c 2 t) (iblk m c 3 t) (iblk m c 4 t) (iblk m c 5 t) (iblk m c 6 t)
    (iblk m c 10 t)

/-- The msa result, from the input arrays at the first grid point. -/
def msaAt (c : Dev nD) : Vec F S512x256 .f32 :=
  msaBlock (iblk m c 7 firstPoint) (iblk m c 8 firstPoint) (iblk m c 9 firstPoint)

/-- The proof data of the pipeline: every input's buffer at its block, the pair result's at the block of the point, the
    msa result's at the value the first point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => pairAt m c t
    | ⟨12, _⟩ => msaAt m c
  Φ _ := Pipeline.ΦA spec0 c
  q _ := fullShare
  owed _ := 0

/-- The arrays are what the host operations before the launch left. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = pairAt m c t := by dsimp only [dats]
theorem after_12 (c : Dev nD) (t : Fin cfg0.N) : (dats m 0 c).after 12 t = msaAt m c := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-- The msa window is idle at every point but the first. -/
theorem idle_12 (t : Fin cfg0.N) (h : t.val ≠ 0) : cfg0.idle 12 (grid0.coords t) = true := by
  have hn : ¬ atFirst (grid0.coords t) := fun hc => h ((atFirst_iff t).mp hc)
  show (!(k0_cond1 (grid0.coords t) == 1#1)) = true
  rw [Bool.not_eq_true', beq_eq_false_iff_ne]
  exact hn

/-- It is not idle at the first. -/
theorem live_12 (t : Fin cfg0.N) (h : t.val = 0) : cfg0.idle 12 (grid0.coords t) = false := by
  have hn : atFirst (grid0.coords t) := (atFirst_iff t).mpr h
  show (!(k0_cond1 (grid0.coords t) == 1#1)) = false
  rw [Bool.not_eq_false', beq_iff_eq]
  exact hn

/-- Before the last point it is not written back. -/
theorem noflush_12 (t : Fin cfg0.N) (h : t.val ≠ 15) : (cfg0.win 12).flush t = false := by
  have ht : t.val < 16 := Nat.lt_of_lt_of_eq t.isLt N_0
  rw [Bool.eq_false_iff]
  intro hf
  have := (flush0_12 t).mp hf
  omega

/-- After the first point the msa window's buffer holds what the first point stored. -/
theorem before_12 (c : Dev nD) : ∀ (n : Nat) (t : Fin cfg0.N), t.val = n + 1 → ∀ d, (dats m 0 c).before 12 t d = msaAt m c := by
  intro n
  induction n with
  | zero =>
    intro t ht d
    have hN : t.val < 16 := Nat.lt_of_lt_of_eq t.isLt N_0
    rw [(dats m 0 c).before_of_pos 12 t (by omega) rfl d, noflush_12 ⟨t.val - 1, _⟩ (by simp only; omega), if_neg Bool.false_ne_true]
    unfold Dat.left
    rw [live_12 ⟨t.val - 1, _⟩ (by simp only; omega)]
    exact after_12 m c _
  | succ n ih =>
    intro t ht d
    have hN : t.val < 16 := Nat.lt_of_lt_of_eq t.isLt N_0
    rw [(dats m 0 c).before_of_pos 12 t (by omega) rfl d, noflush_12 ⟨t.val - 1, _⟩ (by simp only; omega), if_neg Bool.false_ne_true]
    unfold Dat.left
    rw [idle_12 ⟨t.val - 1, _⟩ (by simp only; omega)]
    exact ih ⟨t.val - 1, _⟩ (by simp only; omega) d

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d))
    ∗ (∃ d, owns (c : Thread nD τ) (st12 t) fullShare ((dats m 0 c).before 12 t d)))

/-- What it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- What is left in a window that is never idle. -/
theorem leaves_live (c : Dev nD) (w : Fin cfg0.W) (t : Fin cfg0.N) (h : cfg0.idle w (grid0.coords t) = false) :
    (dats m 0 c).leavesExact w t
      = owns (c : Thread nD τ) ((cfg0.win w).stage (cfg0.slots t w)) fullShare ((dats m 0 c).after w t) := by
  unfold Dat.leavesExact; rw [h]

/-- What is left in the msa window at a later point: the value the first point stored. -/
theorem leaves_12 (c : Dev nD) (t : Fin cfg0.N) (h : t.val ≠ 0) :
    owns (c : Thread nD τ) (st12 t) fullShare (msaAt m c) ⊢ (dats m 0 c).leavesExact 12 t := by
  have hb : ∀ d, (dats m 0 c).before 12 t d = msaAt m c := before_12 m c (t.val - 1) t (by omega)
  by_cases hf : t.val = 15
  · have hF : (cfg0.win 12).flush t = true := (flush0_12 t).mpr (by omega)
    unfold Dat.leavesExact
    rw [idle_12 t h, hF]
    exact .rfl
  · rw [(dats m 0 c).leavesExact_idle 12 t (idle_12 t h) (noflush_12 t hf)]
    simp only [hb]
    iintro H
    iexists (msaAt m c)
    iexact H

set_option maxHeartbeats 2400000 in
/-- The body at any point, from the two runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl]
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 6 t rfl, after_6]
  rw [leaves_live m c 7 t rfl, after_7]
  rw [leaves_live m c 8 t rfl, after_8]
  rw [leaves_live m c 9 t rfl, after_9]
  rw [leaves_live m c 10 t rfl, after_10]
  rw [leaves_live m c 11 t rfl, after_11]
  have hN : t.val < 16 := Nat.lt_of_lt_of_eq t.isLt N_0
  by_cases h0 : t.val = 0
  · obtain rfl : t = firstPoint := Fin.ext h0
    rw [leaves_live m c 12 _ (live_12 _ rfl), after_12]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runFirst c (grid0.coords firstPoint) _ _ _ _ _ _ _ _ _ _ _ _ _ _ _ _ _ _ _ _ _ _ _ _ _ _ ((atFirst_iff firstPoint).mpr rfl) (iblk m c 0 firstPoint) (iblk m c 1 firstPoint) (iblk m c 2 firstPoint) (iblk m c 3 firstPoint) (iblk m c 4 firstPoint) (iblk m c 5 firstPoint) (iblk m c 6 firstPoint) (iblk m c 7 firstPoint) (iblk m c 8 firstPoint) (iblk m c 9 firstPoint) (iblk m c 10 firstPoint)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · have hb : ∀ d, (dats m 0 c).before 12 t d = msaAt m c := before_12 m c (t.val - 1) t (by omega)
    simp only [hb]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runLater c (grid0.coords t) _ _ _ _ _ _ _ _ _ _ _ _ _ _ _ _ _ _ _ _ _ _ _ _ _ _ (fun h => h0 ((atFirst_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (msaAt m c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iapply (leaves_12 m c t h0) $$ [H12]
    iexact H12

/-- The body the pipeline calls at a point is the printed body on that point's staging memory. -/
theorem body_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) :
    BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The run: every array of the pipeline ends at the fold of what was written back, every other buffer as the launch found
    it, every counter at zero. -/
theorem run_launch : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The kernel's frame: it terminates, its arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.1) (run_launch m ρ)))
    ((θ_run defs _ _).mono (fun _ h => h.2) (run_launch m ρ))

end Cert.KernelIdeal.Launch

end
-- ==== Proof.Ref.Run.lean ====
/- The run of the reference program.

   The reference is one list of host operations. This module gives each stage of it a name — the bin midpoints, the
   distances, the nearest bin, the one-hot row, the embedding, the two layer norms — and proves that every weakly fair
   execution of the reference ends with its two results at those stages' composition of the arguments, with the arguments
   unchanged and every counter at zero. -/
module

public import proofs.«01_k».proof.Proof.Gen.ReferenceIdeal
public import Idealize.ShloMosaic.Lib.StableHlo.Run
public import Idealize.ShloMosaic.Lib.Quiescent

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first bin in front of the fourteen that follow it. -/
def joinBins (a : (⟨S1, .f32⟩ : BufTy).Contents (Elt F)) (b : (⟨S14, .f32⟩ : BufTy).Contents (Elt F)) :
    (⟨S15, .f32⟩ : BufTy).Contents (Elt F) :=
  concatenate S15 0 [⟨S1, a⟩, ⟨S14, b⟩] concatenates_S1_S14_S15_d0

/-- The fifteen bins: 3.375, then 5.125 + 1.25 k for k = 0 … 13. -/
def bins : (⟨S15, .f32⟩ : BufTy).Contents (Elt F) :=
  joinBins (constant S1 .f32 0x40580000#32)
    (addf (broadcastInDim S14 ![] bcast_S_S14 (constant S_ .f32 0x40A40000#32))
      (mulf (broadcastInDim S14 ![] bcast_S_S14 (constant S_ .f32 0x3FA00000#32)) (sitofp .f32 (iotaInDim S14 32 0))))

/-- The difference of every two rows of the coordinates. -/
def offsets (x : (⟨S512x3, .f32⟩ : BufTy).Contents (Elt F)) : (⟨S512x512x3, .f32⟩ : BufTy).Contents (Elt F) :=
  subf (broadcastInDim S512x512x3 ![0, 1, 2] bcast_S512x1x3_S512x512x3_0_1_2
      (broadcastInDim S512x1x3 ![0, 2] bcast_S512x3_S512x1x3_0_2 x))
    (broadcastInDim S512x512x3 ![0, 1, 2] bcast_S1x512x3_S512x512x3_0_1_2
      (broadcastInDim S1x512x3 ![1, 2] bcast_S512x3_S1x512x3_1_2 x))

/-- The Euclidean length of every offset. -/
def lengths (v : (⟨S512x512x3, .f32⟩ : BufTy).Contents (Elt F)) : (⟨S512x512, .f32⟩ : BufTy).Contents (Elt F) :=
  Host.sqrt (Host.reduceAdd (mulf v v) (constant S_ .f32 0x00000000#32) reducesTo_S512x512x3_S512x512_d2 h_S_)

/-- How far every distance lies from every bin. -/
def gaps (d : (⟨S512x512, .f32⟩ : BufTy).Contents (Elt F)) (b : (⟨S15, .f32⟩ : BufTy).Contents (Elt F)) :
    (⟨S512x512x15, .f32⟩ : BufTy).Contents (Elt F) :=
  Host.absf (subf
    (broadcastInDim S512x512x15 ![0, 1, 2] bcast_S512x512x1_S512x512x15_0_1_2
      (broadcastInDim S512x512x1 ![0, 1] bcast_S512x512_S512x512x1_0_1 d))
    (broadcastInDim S512x512x15 ![0, 1, 2] bcast_S1x1x15_S512x512x15_0_1_2
      (broadcastInDim S1x1x15 ![2] bcast_S15_S1x1x15_2 b)))

/-- The index part of an argument of the least, at any shapes. -/
def leastIndex {s t u : Shape} {axes : List (Fin s.rank)} (y : FVec F s .f32) (z : IVec s 32) (iy : FVec F u .f32) (iz : IVec u 32)
    (h : s.ReducesTo axes t) (hu : 0 < u.numel) : IVec t 32 :=
  fun j => (Host.argReduce reducer_argmin_f32_i32 y z iy iz h hu j).2

/-- The index of the least entry of every row of fifteen. -/
def nearest (y : (⟨S512x512x15, .f32⟩ : BufTy).Contents (Elt F)) : (⟨S512x512, .i32⟩ : BufTy).Contents (Elt F) :=
  leastIndex (F := F) y (iotaInDim S512x512x15 32 2) (constant S_ .f32 0x7F800000#32) (constantI S_ 32 0#32)
    reducesTo_S512x512x15_S512x512_d2 h_S_

/-- The row that is one at the given index and zero elsewhere. -/
def oneHot (k : (⟨S512x512, .i32⟩ : BufTy).Contents (Elt F)) : (⟨S512x512x15, .f32⟩ : BufTy).Contents (Elt F) :=
  uitofp .f32 (cmpi .eq
    (broadcastInDim S512x512x15 ![0, 1, 2] bcast_S512x512x1_S512x512x15_0_1_2
      (broadcastInDim S512x512x1 ![0, 1] bcast_S512x512_S512x512x1_0_1 k))
    (broadcastInDim S512x512x15 ![0, 1, 2] bcast_S1x1x15_S512x512x15_0_1_2 (iotaInDim S1x1x15 32 2)))

/-- The linear map of the one-hot rows, with its bias. -/
def embed (o : (⟨S512x512x15, .f32⟩ : BufTy).Contents (Elt F)) (w : (⟨S128x15, .f32⟩ : BufTy).Contents (Elt F))
    (b : (⟨S128, .f32⟩ : BufTy).Contents (Elt F)) : (⟨S512x512x128, .f32⟩ : BufTy).Contents (Elt F) :=
  addf (Host.dotGeneral dot_S512x512x15_S15x128_S512x512x128_2_0_01_1_n_n none o
      (transpose S15x128 [1, 0] w transposes_S128x15_S15x128_1_0))
    (broadcastInDim S512x512x128 ![0, 1, 2] bcast_S1x1x128_S512x512x128_0_1_2
      (broadcastInDim S1x1x128 ![2] bcast_S128_S1x1x128_2 b))

/-- The mean of every row of the pair array. -/
def pairMean (z : (⟨S512x512x128, .f32⟩ : BufTy).Contents (Elt F)) : (⟨S512x512x1, .f32⟩ : BufTy).Contents (Elt F) :=
  Host.divf (broadcastInDim S512x512x1 ![0, 1] bcast_S512x512_S512x512x1_0_1
      (Host.reduceAdd z (constant S_ .f32 0x00000000#32) reducesTo_S512x512x128_S512x512_d2 h_S_))
    (broadcastInDim S512x512x1 ![] bcast_S_S512x512x1 (constant S_ .f32 0x43000000#32))

/-- The pair array with every row's mean taken off. -/
def pairCentred (z : (⟨S512x512x128, .f32⟩ : BufTy).Contents (Elt F)) : (⟨S512x512x128, .f32⟩ : BufTy).Contents (Elt F) :=
  subf z (broadcastInDim S512x512x128 ![0, 1, 2] bcast_S512x512x1_S512x512x128_0_1_2 (pairMean z))

/-- Layer normalisation of every row of the pair array. -/
def pairNorm (z : (⟨S512x512x128, .f32⟩ : BufTy).Contents (Elt F)) (g t : (⟨S128, .f32⟩ : BufTy).Contents (Elt F)) :
    (⟨S512x512x128, .f32⟩ : BufTy).Contents (Elt F) :=
  addf (mulf (Host.divf (pairCentred z)
      (broadcastInDim S512x512x128 ![0, 1, 2] bcast_S512x512x1_S512x512x128_0_1_2
        (Host.sqrt (addf (pairMean (mulf (pairCentred z) (pairCentred z)))
          (broadcastInDim S512x512x1 ![] bcast_S_S512x512x1 (constant S_ .f32 0x3727C5AC#32))))))
      (broadcastInDim S512x512x128 ![0, 1, 2] bcast_S1x1x128_S512x512x128_0_1_2
        (broadcastInDim S1x1x128 ![2] bcast_S128_S1x1x128_2 g)))
    (broadcastInDim S512x512x128 ![0, 1, 2] bcast_S1x1x128_S512x512x128_0_1_2
      (broadcastInDim S1x1x128 ![2] bcast_S128_S1x1x128_2 t))

/-- The mean of every row of the msa array. -/
def msaMean (z : (⟨S512x256, .f32⟩ : BufTy).Contents (Elt F)) : (⟨S512x1, .f32⟩ : BufTy).Contents (Elt F) :=
  Host.divf (broadcastInDim S512x1 ![0] bcast_S512_S512x1_0
      (Host.reduceAdd z (constant S_ .f32 0x00000000#32) reducesTo_S512x256_S512_d1 h_S_))
    (broadcastInDim S512x1 ![] bcast_S_S512x1 (constant S_ .f32 0x43800000#32))

/-- The msa array with every row's mean taken off. -/
def msaCentred (z : (⟨S512x256, .f32⟩ : BufTy).Contents (Elt F)) : (⟨S512x256, .f32⟩ : BufTy).Contents (Elt F) :=
  subf z (broadcastInDim S512x256 ![0, 1] bcast_S512x1_S512x256_0_1 (msaMean z))

/-- Layer normalisation of every row of the msa array: the reference's first result. -/
def msaNorm (z : (⟨S512x256, .f32⟩ : BufTy).Contents (Elt F)) (g t : (⟨S256, .f32⟩ : BufTy).Contents (Elt F)) :
    (⟨S512x256, .f32⟩ : BufTy).Contents (Elt F) :=
  addf (mulf (Host.divf (msaCentred z)
      (broadcastInDim S512x256 ![0, 1] bcast_S512x1_S512x256_0_1
        (Host.sqrt (addf (msaMean (mulf (msaCentred z) (msaCentred z)))
          (broadcastInDim S512x1 ![] bcast_S_S512x1 (constant S_ .f32 0x3727C5AC#32))))))
      (broadcastInDim S512x256 ![0, 1] bcast_S1x256_S512x256_0_1 (broadcastInDim S1x256 ![1] bcast_S256_S1x256_1 g)))
    (broadcastInDim S512x256 ![0, 1] bcast_S1x256_S512x256_0_1 (broadcastInDim S1x256 ![1] bcast_S256_S1x256_1 t))

/-- The reference's second result: the embedding of the nearest bin plus the normalised pair array. -/
def pairOut (z : (⟨S512x512x128, .f32⟩ : BufTy).Contents (Elt F)) (x : (⟨S512x3, .f32⟩ : BufTy).Contents (Elt F))
    (w : (⟨S128x15, .f32⟩ : BufTy).Contents (Elt F)) (b g t : (⟨S128, .f32⟩ : BufTy).Contents (Elt F)) :
    (⟨S512x512x128, .f32⟩ : BufTy).Contents (Elt F) :=
  addf (embed (oneHot (nearest (gaps (lengths (offsets x)) bins))) w b) (pairNorm z g t)

/-- The program's operations in order; the operations of a called function stand where the call stood. -/
abbrev ops : List (HloOp τ sig (Elt F)) :=
  [ nullary main_cst (constant S1 .f32 0x40580000#32),
    nullary main_v0 (sitofp .f32 (iotaInDim S14 32 0)),
    nullary main_cst_0 (constant S_ .f32 0x3FA00000#32),
    unary main_cst_0 main_v1 (broadcastInDim S14 ![] bcast_S_S14 : (⟨S_, .f32⟩ : BufTy).Contents (Elt F) → (⟨S14, .f32⟩ : BufTy).Contents (Elt F)),
    binary main_v1 main_v0 main_v2 (mulf : (⟨S14, .f32⟩ : BufTy).Contents (Elt F) → (⟨S14, .f32⟩ : BufTy).Contents (Elt F) → (⟨S14, .f32⟩ : BufTy).Contents (Elt F)),
    nullary main_cst_1 (constant S_ .f32 0x40A40000#32),
    unary main_cst_1 main_v3 (broadcastInDim S14 ![] bcast_S_S14 : (⟨S_, .f32⟩ : BufTy).Contents (Elt F) → (⟨S14, .f32⟩ : BufTy).Contents (Elt F)),
    binary main_v3 main_v2 main_v4 (addf : (⟨S14, .f32⟩ : BufTy).Contents (Elt F) → (⟨S14, .f32⟩ : BufTy).Contents (Elt F) → (⟨S14, .f32⟩ : BufTy).Contents (Elt F)),
    binary main_cst main_v4 main_v5 (joinBins (F := F)),
    unary main_arg2 main_v6 (broadcastInDim S512x1x3 ![0, 2] bcast_S512x3_S512x1x3_0_2 : (⟨S512x3, .f32⟩ : BufTy).Contents (Elt F) → (⟨S512x1x3, .f32⟩ : BufTy).Contents (Elt F)),
    unary main_arg2 main_v7 (broadcastInDim S1x512x3 ![1, 2] bcast_S512x3_S1x512x3_1_2 : (⟨S512x3, .f32⟩ : BufTy).Contents (Elt F) → (⟨S1x512x3, .f32⟩ : BufTy).Contents (Elt F)),
    unary main_v6 main_v8 (broadcastInDim S512x512x3 ![0, 1, 2] bcast_S512x1x3_S512x512x3_0_1_2 : (⟨S512x1x3, .f32⟩ : BufTy).Contents (Elt F) → (⟨S512x512x3, .f32⟩ : BufTy).Contents (Elt F)),
    unary main_v7 main_v9 (broadcastInDim S512x512x3 ![0, 1, 2] bcast_S1x512x3_S512x512x3_0_1_2 : (⟨S1x512x3, .f32⟩ : BufTy).Contents (Elt F) → (⟨S512x512x3, .f32⟩ : BufTy).Contents (Elt F)),
    binary main_v8 main_v9 main_v10 (subf : (⟨S512x512x3, .f32⟩ : BufTy).Contents (Elt F) → (⟨S512x512x3, .f32⟩ : BufTy).Contents (Elt F) → (⟨S512x512x3, .f32⟩ : BufTy).Contents (Elt F)),
    TRef.binary (TRef.of (T := ⟨S512x512x3, .f32⟩) main_v10) (TRef.of (T := ⟨S512x512x3, .f32⟩) main_v10) (TRef.of (T := ⟨S512x512x3, .f32⟩) main_call0_v0) mulf,
    TRef.nullary (TRef.of (T := ⟨S_, .f32⟩) main_call0_cst) (constant S_ .f32 0x00000000#32),
    TRef.binary (TRef.of (T := ⟨S512x512x3, .f32⟩) main_call0_v0) (TRef.of (T := ⟨S_, .f32⟩) main_call0_cst) (TRef.of (T := ⟨S512x512, .f32⟩) main_call0_v1) (fun x v => Host.reduceAdd x v reducesTo_S512x512x3_S512x512_d2 h_S_),
    TRef.unary (TRef.of (T := ⟨S512x512, .f32⟩) main_call0_v1) (TRef.of (T := ⟨S512x512, .f32⟩) main_v11) Host.sqrt,
    unary main_v11 main_v12 (broadcastInDim S512x512x1 ![0, 1] bcast_S512x512_S512x512x1_0_1 : (⟨S512x512, .f32⟩ : BufTy).Contents (Elt F) → (⟨S512x512x1, .f32⟩ : BufTy).Contents (Elt F)),
    unary main_v5 main_v13 (broadcastInDim S1x1x15 ![2] bcast_S15_S1x1x15_2 : (⟨S15, .f32⟩ : BufTy).Contents (Elt F) → (⟨S1x1x15, .f32⟩ : BufTy).Contents (Elt F)),
    unary main_v12 main_v14 (broadcastInDim S512x512x15 ![0, 1, 2] bcast_S512x512x1_S512x512x15_0_1_2 : (⟨S512x512x1, .f32⟩ : BufTy).Contents (Elt F) → (⟨S512x512x15, .f32⟩ : BufTy).Contents (Elt F)),
    unary main_v13 main_v15 (broadcastInDim S512x512x15 ![0, 1, 2] bcast_S1x1x15_S512x512x15_0_1_2 : (⟨S1x1x15, .f32⟩ : BufTy).Contents (Elt F) → (⟨S512x512x15, .f32⟩ : BufTy).Contents (Elt F)),
    binary main_v14 main_v15 main_v16 (subf : (⟨S512x512x15, .f32⟩ : BufTy).Contents (Elt F) → (⟨S512x512x15, .f32⟩ : BufTy).Contents (Elt F) → (⟨S512x512x15, .f32⟩ : BufTy).Contents (Elt F)),
    unary main_v16 main_v17 (Host.absf : (⟨S512x512x15, .f32⟩ : BufTy).Contents (Elt F) → (⟨S512x512x15, .f32⟩ : BufTy).Contents (Elt F)),
    TRef.nullary (TRef.of (T := ⟨S512x512x15, .i32⟩) main_call1_v0) (iotaInDim S512x512x15 32 2),
    TRef.nullary (TRef.of (T := ⟨S_, .f32⟩) main_call1_cst) (constant S_ .f32 0x7F800000#32),
    TRef.nullary (TRef.of (T := ⟨S_, .i32⟩) main_call1_c) (constantI S_ 32 0#32),
    TRef.quaternary (TRef.of (T := ⟨S512x512x15, .f32⟩) main_v17) (TRef.of (T := ⟨S512x512x15, .i32⟩) main_call1_v0) (TRef.of (T := ⟨S_, .f32⟩) main_call1_cst) (TRef.of (T := ⟨S_, .i32⟩) main_call1_c) (TRef.of (T := ⟨S512x512, .f32⟩) main_call1_v1_0) (fun x y u v j => (Host.argReduce reducer_argmin_f32_i32 x y u v reducesTo_S512x512x15_S512x512_d2 h_S_ j).1),
    TRef.quaternary (TRef.of (T := ⟨S512x512x15, .f32⟩) main_v17) (TRef.of (T := ⟨S512x512x15, .i32⟩) main_call1_v0) (TRef.of (T := ⟨S_, .f32⟩) main_call1_cst) (TRef.of (T := ⟨S_, .i32⟩) main_call1_c) (TRef.of (T := ⟨S512x512, .i32⟩) main_v18) (fun x y u v j => (Host.argReduce reducer_argmin_f32_i32 x y u v reducesTo_S512x512x15_S512x512_d2 h_S_ j).2),
    TRef.unary (TRef.of (T := ⟨S512x512, .i32⟩) main_v18) (TRef.of (T := ⟨S512x512x1, .i32⟩) main_call2_v0) (broadcastInDim S512x512x1 ![0, 1] bcast_S512x512_S512x512x1_0_1),
    TRef.nullary (TRef.of (T := ⟨S1x1x15, .i32⟩) main_call2_v1) (iotaInDim S1x1x15 32 2),
    TRef.unary (TRef.of (T := ⟨S512x512x1, .i32⟩) main_call2_v0) (TRef.of (T := ⟨S512x512x15, .i32⟩) main_call2_v2) (broadcastInDim S512x512x15 ![0, 1, 2] bcast_S512x512x1_S512x512x15_0_1_2),
    TRef.unary (TRef.of (T := ⟨S1x1x15, .i32⟩) main_call2_v1) (TRef.of (T := ⟨S512x512x15, .i32⟩) main_call2_v3) (broadcastInDim S512x512x15 ![0, 1, 2] bcast_S1x1x15_S512x512x15_0_1_2),
    TRef.binary (TRef.of (T := ⟨S512x512x15, .i32⟩) main_call2_v2) (TRef.of (T := ⟨S512x512x15, .i32⟩) main_call2_v3) (TRef.of (T := ⟨S512x512x15, .i1⟩) main_call2_v4) (cmpi .eq),
    TRef.unary (TRef.of (T := ⟨S512x512x15, .i1⟩) main_call2_v4) (TRef.of (T := ⟨S512x512x15, .f32⟩) main_v19) (uitofp .f32),
    unary main_arg3 main_v20 ((transpose S15x128 [1, 0] · transposes_S128x15_S15x128_1_0) : (⟨S128x15, .f32⟩ : BufTy).Contents (Elt F) → (⟨S15x128, .f32⟩ : BufTy).Contents (Elt F)),
    binary main_v19 main_v20 main_v21 ((fun l r => Host.dotGeneral dot_S512x512x15_S15x128_S512x512x128_2_0_01_1_n_n none l r) : (⟨S512x512x15, .f32⟩ : BufTy).Contents (Elt F) → (⟨S15x128, .f32⟩ : BufTy).Contents (Elt F) → (⟨S512x512x128, .f32⟩ : BufTy).Contents (Elt F)),
    unary main_arg4 main_v22 (broadcastInDim S1x1x128 ![2] bcast_S128_S1x1x128_2 : (⟨S128, .f32⟩ : BufTy).Contents (Elt F) → (⟨S1x1x128, .f32⟩ : BufTy).Contents (Elt F)),
    unary main_v22 main_v23 (broadcastInDim S512x512x128 ![0, 1, 2] bcast_S1x1x128_S512x512x128_0_1_2 : (⟨S1x1x128, .f32⟩ : BufTy).Contents (Elt F) → (⟨S512x512x128, .f32⟩ : BufTy).Contents (Elt F)),
    binary main_v21 main_v23 main_v24 (addf : (⟨S512x512x128, .f32⟩ : BufTy).Contents (Elt F) → (⟨S512x512x128, .f32⟩ : BufTy).Contents (Elt F) → (⟨S512x512x128, .f32⟩ : BufTy).Contents (Elt F)),
    nullary main_cst_2 (constant S_ .f32 0x00000000#32),
    binary main_arg1 main_cst_2 main_v25 ((fun x v => Host.reduceAdd x v reducesTo_S512x512x128_S512x512_d2 h_S_) : (⟨S512x512x128, .f32⟩ : BufTy).Contents (Elt F) → (⟨S_, .f32⟩ : BufTy).Contents (Elt F) → (⟨S512x512, .f32⟩ : BufTy).Contents (Elt F)),
    unary main_v25 main_v26 (broadcastInDim S512x512x1 ![0, 1] bcast_S512x512_S512x512x1_0_1 : (⟨S512x512, .f32⟩ : BufTy).Contents (Elt F) → (⟨S512x512x1, .f32⟩ : BufTy).Contents (Elt F)),
    nullary main_cst_3 (constant S_ .f32 0x43000000#32),
    unary main_cst_3 main_v27 (broadcastInDim S512x512x1 ![] bcast_S_S512x512x1 : (⟨S_, .f32⟩ : BufTy).Contents (Elt F) → (⟨S512x512x1, .f32⟩ : BufTy).Contents (Elt F)),
    binary main_v26 main_v27 main_v28 (Host.divf : (⟨S512x512x1, .f32⟩ : BufTy).Contents (Elt F) → (⟨S512x512x1, .f32⟩ : BufTy).Contents (Elt F) → (⟨S512x512x1, .f32⟩ : BufTy).Contents (Elt F)),
    unary main_v28 main_v29 (broadcastInDim S512x512x128 ![0, 1, 2] bcast_S512x512x1_S512x512x128_0_1_2 : (⟨S512x512x1, .f32⟩ : BufTy).Contents (Elt F) → (⟨S512x512x128, .f32⟩ : BufTy).Contents (Elt F)),
    binary main_arg1 main_v29 main_v30 (subf : (⟨S512x512x128, .f32⟩ : BufTy).Contents (Elt F) → (⟨S512x512x128, .f32⟩ : BufTy).Contents (Elt F) → (⟨S512x512x128, .f32⟩ : BufTy).Contents (Elt F)),
    binary main_v30 main_v30 main_v31 (mulf : (⟨S512x512x128, .f32⟩ : BufTy).Contents (Elt F) → (⟨S512x512x128, .f32⟩ : BufTy).Contents (Elt F) → (⟨S512x512x128, .f32⟩ : BufTy).Contents (Elt F)),
    nullary main_cst_4 (constant S_ .f32 0x00000000#32),
    binary main_v31 main_cst_4 main_v32 ((fun x v => Host.reduceAdd x v reducesTo_S512x512x128_S512x512_d2 h_S_) : (⟨S512x512x128, .f32⟩ : BufTy).Contents (Elt F) → (⟨S_, .f32⟩ : BufTy).Contents (Elt F) → (⟨S512x512, .f32⟩ : BufTy).Contents (Elt F)),
    unary main_v32 main_v33 (broadcastInDim S512x512x1 ![0, 1] bcast_S512x512_S512x512x1_0_1 : (⟨S512x512, .f32⟩ : BufTy).Contents (Elt F) → (⟨S512x512x1, .f32⟩ : BufTy).Contents (Elt F)),
    nullary main_cst_5 (constant S_ .f32 0x43000000#32),
    unary main_cst_5 main_v34 (broadcastInDim S512x512x1 ![] bcast_S_S512x512x1 : (⟨S_, .f32⟩ : BufTy).Contents (Elt F) → (⟨S512x512x1, .f32⟩ : BufTy).Contents (Elt F)),
    binary main_v33 main_v34 main_v35 (Host.divf : (⟨S512x512x1, .f32⟩ : BufTy).Contents (Elt F) → (⟨S512x512x1, .f32⟩ : BufTy).Contents (Elt F) → (⟨S512x512x1, .f32⟩ : BufTy).Contents (Elt F)),
    unary main_v28 main_v36 (broadcastInDim S512x512x128 ![0, 1, 2] bcast_S512x512x1_S512x512x128_0_1_2 : (⟨S512x512x1, .f32⟩ : BufTy).Contents (Elt F) → (⟨S512x512x128, .f32⟩ : BufTy).Contents (Elt F)),
    binary main_arg1 main_v36 main_v37 (subf : (⟨S512x512x128, .f32⟩ : BufTy).Contents (Elt F) → (⟨S512x512x128, .f32⟩ : BufTy).Contents (Elt F) → (⟨S512x512x128, .f32⟩ : BufTy).Contents (Elt F)),
    nullary main_cst_6 (constant S_ .f32 0x3727C5AC#32),
    unary main_cst_6 main_v38 (broadcastInDim S512x512x1 ![] bcast_S_S512x512x1 : (⟨S_, .f32⟩ : BufTy).Contents (Elt F) → (⟨S512x512x1, .f32⟩ : BufTy).Contents (Elt F)),
    binary main_v35 main_v38 main_v39 (addf : (⟨S512x512x1, .f32⟩ : BufTy).Contents (Elt F) → (⟨S512x512x1, .f32⟩ : BufTy).Contents (Elt F) → (⟨S512x512x1, .f32⟩ : BufTy).Contents (Elt F)),
    unary main_v39 main_v40 (Host.sqrt : (⟨S512x512x1, .f32⟩ : BufTy).Contents (Elt F) → (⟨S512x512x1, .f32⟩ : BufTy).Contents (Elt F)),
    unary main_v40 main_v41 (broadcastInDim S512x512x128 ![0, 1, 2] bcast_S512x512x1_S512x512x128_0_1_2 : (⟨S512x512x1, .f32⟩ : BufTy).Contents (Elt F) → (⟨S512x512x128, .f32⟩ : BufTy).Contents (Elt F)),
    binary main_v37 main_v41 main_v42 (Host.divf : (⟨S512x512x128, .f32⟩ : BufTy).Contents (Elt F) → (⟨S512x512x128, .f32⟩ : BufTy).Contents (Elt F) → (⟨S512x512x128, .f32⟩ : BufTy).Contents (Elt F)),
    unary main_arg5 main_v43 (broadcastInDim S1x1x128 ![2] bcast_S128_S1x1x128_2 : (⟨S128, .f32⟩ : BufTy).Contents (Elt F) → (⟨S1x1x128, .f32⟩ : BufTy).Contents (Elt F)),
    unary main_v43 main_v44 (broadcastInDim S512x512x128 ![0, 1, 2] bcast_S1x1x128_S512x512x128_0_1_2 : (⟨S1x1x128, .f32⟩ : BufTy).Contents (Elt F) → (⟨S512x512x128, .f32⟩ : BufTy).Contents (Elt F)),
    binary main_v42 main_v44 main_v45 (mulf : (⟨S512x512x128, .f32⟩ : BufTy).Contents (Elt F) → (⟨S512x512x128, .f32⟩ : BufTy).Contents (Elt F) → (⟨S512x512x128, .f32⟩ : BufTy).Contents (Elt F)),
    unary main_arg6 main_v46 (broadcastInDim S1x1x128 ![2] bcast_S128_S1x1x128_2 : (⟨S128, .f32⟩ : BufTy).Contents (Elt F) → (⟨S1x1x128, .f32⟩ : BufTy).Contents (Elt F)),
    unary main_v46 main_v47 (broadcastInDim S512x512x128 ![0, 1, 2] bcast_S1x1x128_S512x512x128_0_1_2 : (⟨S1x1x128, .f32⟩ : BufTy).Contents (Elt F) → (⟨S512x512x128, .f32⟩ : BufTy).Contents (Elt F)),
    binary main_v45 main_v47 main_v48 (addf : (⟨S512x512x128, .f32⟩ : BufTy).Contents (Elt F) → (⟨S512x512x128, .f32⟩ : BufTy).Contents (Elt F) → (⟨S512x512x128, .f32⟩ : BufTy).Contents (Elt F)),
    binary main_v24 main_v48 main_v49 (addf : (⟨S512x512x128, .f32⟩ : BufTy).Contents (Elt F) → (⟨S512x512x128, .f32⟩ : BufTy).Contents (Elt F) → (⟨S512x512x128, .f32⟩ : BufTy).Contents (Elt F)),
    nullary main_cst_7 (constant S_ .f32 0x00000000#32),
    binary main_arg0 main_cst_7 main_v50 ((fun x v => Host.reduceAdd x v reducesTo_S512x256_S512_d1 h_S_) : (⟨S512x256, .f32⟩ : BufTy).Contents (Elt F) → (⟨S_, .f32⟩ : BufTy).Contents (Elt F) → (⟨S512, .f32⟩ : BufTy).Contents (Elt F)),
    unary main_v50 main_v51 (broadcastInDim S512x1 ![0] bcast_S512_S512x1_0 : (⟨S512, .f32⟩ : BufTy).Contents (Elt F) → (⟨S512x1, .f32⟩ : BufTy).Contents (Elt F)),
    nullary main_cst_8 (constant S_ .f32 0x43800000#32),
    unary main_cst_8 main_v52 (broadcastInDim S512x1 ![] bcast_S_S512x1 : (⟨S_, .f32⟩ : BufTy).Contents (Elt F) → (⟨S512x1, .f32⟩ : BufTy).Contents (Elt F)),
    binary main_v51 main_v52 main_v53 (Host.divf : (⟨S512x1, .f32⟩ : BufTy).Contents (Elt F) → (⟨S512x1, .f32⟩ : BufTy).Contents (Elt F) → (⟨S512x1, .f32⟩ : BufTy).Contents (Elt F)),
    unary main_v53 main_v54 (broadcastInDim S512x256 ![0, 1] bcast_S512x1_S512x256_0_1 : (⟨S512x1, .f32⟩ : BufTy).Contents (Elt F) → (⟨S512x256, .f32⟩ : BufTy).Contents (Elt F)),
    binary main_arg0 main_v54 main_v55 (subf : (⟨S512x256, .f32⟩ : BufTy).Contents (Elt F) → (⟨S512x256, .f32⟩ : BufTy).Contents (Elt F) → (⟨S512x256, .f32⟩ : BufTy).Contents (Elt F)),
    binary main_v55 main_v55 main_v56 (mulf : (⟨S512x256, .f32⟩ : BufTy).Contents (Elt F) → (⟨S512x256, .f32⟩ : BufTy).Contents (Elt F) → (⟨S512x256, .f32⟩ : BufTy).Contents (Elt F)),
    nullary main_cst_9 (constant S_ .f32 0x00000000#32),
    binary main_v56 main_cst_9 main_v57 ((fun x v => Host.reduceAdd x v reducesTo_S512x256_S512_d1 h_S_) : (⟨S512x256, .f32⟩ : BufTy).Contents (Elt F) → (⟨S_, .f32⟩ : BufTy).Contents (Elt F) → (⟨S512, .f32⟩ : BufTy).Contents (Elt F)),
    unary main_v57 main_v58 (broadcastInDim S512x1 ![0] bcast_S512_S512x1_0 : (⟨S512, .f32⟩ : BufTy).Contents (Elt F) → (⟨S512x1, .f32⟩ : BufTy).Contents (Elt F)),
    nullary main_cst_10 (constant S_ .f32 0x43800000#32),
    unary main_cst_10 main_v59 (broadcastInDim S512x1 ![] bcast_S_S512x1 : (⟨S_, .f32⟩ : BufTy).Contents (Elt F) → (⟨S512x1, .f32⟩ : BufTy).Contents (Elt F)),
    binary main_v58 main_v59 main_v60 (Host.divf : (⟨S512x1, .f32⟩ : BufTy).Contents (Elt F) → (⟨S512x1, .f32⟩ : BufTy).Contents (Elt F) → (⟨S512x1, .f32⟩ : BufTy).Contents (Elt F)),
    unary main_v53 main_v61 (broadcastInDim S512x256 ![0, 1] bcast_S512x1_S512x256_0_1 : (⟨S512x1, .f32⟩ : BufTy).Contents (Elt F) → (⟨S512x256, .f32⟩ : BufTy).Contents (Elt F)),
    binary main_arg0 main_v61 main_v62 (subf : (⟨S512x256, .f32⟩ : BufTy).Contents (Elt F) → (⟨S512x256, .f32⟩ : BufTy).Contents (Elt F) → (⟨S512x256, .f32⟩ : BufTy).Contents (Elt F)),
    nullary main_cst_11 (constant S_ .f32 0x3727C5AC#32),
    unary main_cst_11 main_v63 (broadcastInDim S512x1 ![] bcast_S_S512x1 : (⟨S_, .f32⟩ : BufTy).Contents (Elt F) → (⟨S512x1, .f32⟩ : BufTy).Contents (Elt F)),
    binary main_v60 main_v63 main_v64 (addf : (⟨S512x1, .f32⟩ : BufTy).Contents (Elt F) → (⟨S512x1, .f32⟩ : BufTy).Contents (Elt F) → (⟨S512x1, .f32⟩ : BufTy).Contents (Elt F)),
    unary main_v64 main_v65 (Host.sqrt : (⟨S512x1, .f32⟩ : BufTy).Contents (Elt F) → (⟨S512x1, .f32⟩ : BufTy).Contents (Elt F)),
    unary main_v65 main_v66 (broadcastInDim S512x256 ![0, 1] bcast_S512x1_S512x256_0_1 : (⟨S512x1, .f32⟩ : BufTy).Contents (Elt F) → (⟨S512x256, .f32⟩ : BufTy).Contents (Elt F)),
    binary main_v62 main_v66 main_v67 (Host.divf : (⟨S512x256, .f32⟩ : BufTy).Contents (Elt F) → (⟨S512x256, .f32⟩ : BufTy).Contents (Elt F) → (⟨S512x256, .f32⟩ : BufTy).Contents (Elt F)),
    unary main_arg7 main_v68 (broadcastInDim S1x256 ![1] bcast_S256_S1x256_1 : (⟨S256, .f32⟩ : BufTy).Contents (Elt F) → (⟨S1x256, .f32⟩ : BufTy).Contents (Elt F)),
    unary main_v68 main_v69 (broadcastInDim S512x256 ![0, 1] bcast_S1x256_S512x256_0_1 : (⟨S1x256, .f32⟩ : BufTy).Contents (Elt F) → (⟨S512x256, .f32⟩ : BufTy).Contents (Elt F)),
    binary main_v67 main_v69 main_v70 (mulf : (⟨S512x256, .f32⟩ : BufTy).Contents (Elt F) → (⟨S512x256, .f32⟩ : BufTy).Contents (Elt F) → (⟨S512x256, .f32⟩ : BufTy).Contents (Elt F)),
    unary main_arg8 main_v71 (broadcastInDim S1x256 ![1] bcast_S256_S1x256_1 : (⟨S256, .f32⟩ : BufTy).Contents (Elt F) → (⟨S1x256, .f32⟩ : BufTy).Contents (Elt F)),
    unary main_v71 main_v72 (broadcastInDim S512x256 ![0, 1] bcast_S1x256_S512x256_0_1 : (⟨S1x256, .f32⟩ : BufTy).Contents (Elt F) → (⟨S512x256, .f32⟩ : BufTy).Contents (Elt F)),
    binary main_v70 main_v72 main_v73 (addf : (⟨S512x256, .f32⟩ : BufTy).Contents (Elt F) → (⟨S512x256, .f32⟩ : BufTy).Contents (Elt F) → (⟨S512x256, .f32⟩ : BufTy).Contents (Elt F)) ]

set_option maxRecDepth 8192 in
set_option maxHeartbeats 4000000 in
/-- The program is that list of operations. -/
theorem main_eq (c : Dev nD) : main (F := F) c = seq ops := rfl

/-- No buffer of the program is scoped. -/
theorem no_scoped_buffer : (Finset.univ.filter fun b : Ref sig .tc => b.isScoped) = ∅ := by decide

/-- No semaphore of the program is scoped. -/
theorem no_scoped_semaphore : (Finset.univ.filter fun sm : SemLoc sig => sm.isScoped .tc) = ∅ := by decide

set_option maxRecDepth 8192 in
/-- Every operation reads and writes buffers of the program. -/
theorem ops_sub : (ops : List (HloOp τ sig (Elt F))).Forall fun op => op.bufs ⊆ tcRefs τ sig :=
  ⟨nullary_bufs_sub .., nullary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., binary_bufs_sub .., binary_bufs_sub .., nullary_bufs_sub .., binary_bufs_sub .., unary_bufs_sub .., unary_bufs_sub .., unary_bufs_sub .., unary_bufs_sub .., unary_bufs_sub .., binary_bufs_sub .., unary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

set_option maxRecDepth 8192 in
set_option maxHeartbeats 16000000 in
/-- After the operations the first result is the layer norm of the msa array. -/
theorem after_msa (m : (ℓ : Loc nD τ sig) → Buf (Elt F) ℓ) (c : Dev nD) :
    after ops (launchContents m c) (Proc.devRef .tc main_v73) = msaNorm (m ((c.tc : Thread nD τ).loc main_arg0)) (m ((c.tc : Thread nD τ).loc main_arg7))
      (m ((c.tc : Thread nD τ).loc main_arg8)) := by
  simp only [ops, TRef.quaternary, TRef.binary, TRef.nullary, TRef.unary, TRef.toBuf, TRef.ofBuf, cast_eq]
  after_results_simp <;> rfl

set_option maxRecDepth 8192 in
set_option maxHeartbeats 16000000 in
/-- After the operations the second result is the embedding plus the layer norm of the pair array. -/
theorem after_pair (m : (ℓ : Loc nD τ sig) → Buf (Elt F) ℓ) (c : Dev nD) :
    after ops (launchContents m c) (Proc.devRef .tc main_v49) = pairOut (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6)) := by
  simp only [ops, TRef.quaternary, TRef.binary, TRef.nullary, TRef.unary, TRef.toBuf, TRef.ofBuf, cast_eq]
  after_results_simp <;> rfl

set_option maxRecDepth 8192 in
set_option maxHeartbeats 4000000 in
/-- No operation writes an argument. -/
theorem after_arg (m : (ℓ : Loc nD τ sig) → Buf (Elt F) ℓ) (c : Dev nD) :
    after ops (launchContents m c) (Proc.devRef .tc main_arg0) = m ((c.tc : Thread nD τ).loc main_arg0)
    ∧ after ops (launchContents m c) (Proc.devRef .tc main_arg1) = m ((c.tc : Thread nD τ).loc main_arg1)
    ∧ after ops (launchContents m c) (Proc.devRef .tc main_arg2) = m ((c.tc : Thread nD τ).loc main_arg2)
    ∧ after ops (launchContents m c) (Proc.devRef .tc main_arg3) = m ((c.tc : Thread nD τ).loc main_arg3)
    ∧ after ops (launchContents m c) (Proc.devRef .tc main_arg4) = m ((c.tc : Thread nD τ).loc main_arg4)
    ∧ after ops (launchContents m c) (Proc.devRef .tc main_arg5) = m ((c.tc : Thread nD τ).loc main_arg5)
    ∧ after ops (launchContents m c) (Proc.devRef .tc main_arg6) = m ((c.tc : Thread nD τ).loc main_arg6)
    ∧ after ops (launchContents m c) (Proc.devRef .tc main_arg7) = m ((c.tc : Thread nD τ).loc main_arg7)
    ∧ after ops (launchContents m c) (Proc.devRef .tc main_arg8) = m ((c.tc : Thread nD τ).loc main_arg8) := by
  refine ⟨?_, ?_, ?_, ?_, ?_, ?_, ?_, ?_, ?_⟩ <;>
    (simp only [ops, TRef.quaternary, TRef.binary, TRef.nullary, TRef.unary, TRef.toBuf, TRef.ofBuf, cast_eq]
     after_results_simp <;> rfl)

/-- The reference's run: both results at the stages' values of the arguments, the arguments unchanged, every counter at
    zero. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v73) = msaNorm (m ((c.tc : Thread nD τ).loc main_arg0)) (m ((c.tc : Thread nD τ).loc main_arg7))
          (m ((c.tc : Thread nD τ).loc main_arg8))
      ∧ r.2.mem ((c.tc : Thread nD τ).loc main_v49) = pairOut (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0 :=
  (θ_run defs _ _).mono (fun r h => ⟨fun c => by
      obtain ⟨e0, e1, e2, e3, e4, e5, e6, e7, e8⟩ := after_arg m c
      exact ⟨(h c main_v73).trans (after_msa m c), (h c main_v49).trans (after_pair m c),
        (h c main_arg0).trans e0, (h c main_arg1).trans e1, (h c main_arg2).trans e2, (h c main_arg3).trans e3,
        (h c main_arg4).trans e4, (h c main_arg5).trans e5, (h c main_arg6).trans e6, (h c main_arg7).trans e7,
        (h c main_arg8).trans e8⟩,
      sem_eq_zero_of_no_sems (by decide) r.2⟩)
    (run_seq no_scoped_buffer no_scoped_semaphore defs main (fun _ => ops) main_eq (fun _ => ops_sub) m ρ)

end Cert.ReferenceIdeal.Hand

end
-- ==== Proof.Math.Reals.lean ====
/- Extended reals that happen to be real, and the float constants of the two programs.

   The ideal floats are extended reals. Most of the arithmetic of both programs runs on real entries; this module moves
   sums, quotients and square roots of real entries into the reals, says what one infinite term does to a sum, and reads
   the bit patterns of the constants. -/
module

public import Idealize.ShloMosaic.PureOps.Ideal
public import Idealize.ShloMosaic.PureOps.Ideal.Laws

@[expose] public section

noncomputable section

namespace Cert.Hand

open Idealize.ShloMosaic
open scoped BigOperators

/-- An extended real is either infinite or the image of a real. -/
theorem real_or_infinite (x : EReal) : (x = ⊥ ∨ x = ⊤) ∨ ∃ r : ℝ, x = (r : EReal) := by
  induction x using EReal.rec with
  | bot => exact .inl (.inl rfl)
  | top => exact .inl (.inr rfl)
  | coe r => exact .inr ⟨r, rfl⟩

/-- A value whose absolute value lies below infinity is real. -/
theorem real_of_abs_lt_top {x : EReal} (h : max x (-x) < ⊤) : ∃ r : ℝ, x = (r : EReal) := by
  rcases real_or_infinite x with (rfl | rfl) | h'
  · simp at h
  · simp at h
  · exact h'

/-- A sum of reals, taken among the extended reals. -/
theorem sum_real {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of two extended reals with an infinite term on the left is infinite. -/
theorem add_infinite_left {a b : EReal} (h : a = ⊥ ∨ a = ⊤) : a + b = ⊥ ∨ a + b = ⊤ := by
  rcases h with rfl | rfl
  · exact .inl (EReal.bot_add b)
  · rcases real_or_infinite b with (rfl | rfl) | ⟨r, rfl⟩
    · exact .inl (EReal.add_bot _)
    · exact .inr rfl
    · exact .inr (EReal.top_add_coe r)

/-- One infinite term makes a finite sum infinite. -/
theorem sum_infinite {ι : Type} (s : Finset ι) (f : ι → EReal) (k : ι) (hk : k ∈ s) (h : f k = ⊥ ∨ f k = ⊤) :
    (∑ i ∈ s, f i) = ⊥ ∨ (∑ i ∈ s, f i) = ⊤ := by
  classical
  rw [← Finset.add_sum_erase s f hk]
  exact add_infinite_left h

/-- An infinite value times a real that is not zero is infinite. -/
theorem mul_infinite {a : EReal} (h : a = ⊥ ∨ a = ⊤) {r : ℝ} (hr : r ≠ 0) :
    a * (r : EReal) = ⊥ ∨ a * (r : EReal) = ⊤ := by
  rcases lt_or_gt_of_ne hr with hr | hr <;> rcases h with rfl | rfl
  · exact .inr (EReal.bot_mul_coe_of_neg hr)
  · exact .inl (EReal.top_mul_coe_of_neg hr)
  · exact .inl (EReal.bot_mul_coe_of_pos hr)
  · exact .inr (EReal.top_mul_coe_of_pos hr)

/-- The square of an infinite value is plus infinity. -/
theorem sq_infinite {a : EReal} (h : a = ⊥ ∨ a = ⊤) : a * a = ⊤ := by
  rcases h with rfl | rfl <;> simp

/-- Anything less an infinite value is infinite. -/
theorem sub_infinite {a b : EReal} (h : b = ⊥ ∨ b = ⊤) : a - b = ⊥ ∨ a - b = ⊤ := by
  rw [sub_eq_add_neg, add_comm]
  apply add_infinite_left
  rcases h with rfl | rfl <;> simp

/-- A sum over a nonempty index whose every term is plus infinity is plus infinity. -/
theorem sum_top {n : ℕ} (f : Fin (n + 1) → EReal) (h : ∀ k, f k = ⊤) : ∑ k, f k = ⊤ := by
  have hf : f = fun _ => ⊤ := funext h
  subst hf
  induction n with
  | zero => simp
  | succ n ih =>
    rw [Fin.sum_univ_succ]
    exact (congrArg (fun y => (⊤ : EReal) + y) (ih fun _ => rfl)).trans rfl

/-- The quotient of two reals, the divisor not zero. -/
theorem div_real (a : ℝ) {b : ℝ} (hb : b ≠ 0) : Ideal.div (a : EReal) (b : EReal) = ((a / b : ℝ) : EReal) := by
  rw [Ideal.div_coe hb, ← EReal.coe_mul]; congr 1; ring

/-- An infinite value divided by a real that is not zero is infinite. -/
theorem div_infinite {a : EReal} (h : a = ⊥ ∨ a = ⊤) {b : ℝ} (hb : b ≠ 0) :
    Ideal.div a (b : EReal) = ⊥ ∨ Ideal.div a (b : EReal) = ⊤ := by
  rw [Ideal.div_coe hb]
  exact mul_infinite h (one_div_ne_zero hb)

/-- Whatever is divided by plus infinity gives zero. -/
theorem div_top (a : EReal) : Ideal.div a ⊤ = 0 := by
  simp [Ideal.div]

/-- The square root of a real that is not negative. -/
theorem sqrt_real {a : ℝ} (ha : 0 ≤ a) : Ideal.sqrt (a : EReal) = ((Real.sqrt a : ℝ) : EReal) := by
  rw [Ideal.sqrt_coe, if_neg (not_lt.2 ha)]

/-- The reciprocal square root of a positive real. -/
theorem rsqrt_real {a : ℝ} (ha : 0 < a) : Ideal.rsqrt (a : EReal) = (((Real.sqrt a)⁻¹ : ℝ) : EReal) := by
  rw [Ideal.rsqrt_coe, if_neg (not_lt.2 ha.le), if_neg ha.ne']

/-- The constant 128. -/
theorem c128 : Ideal.ofBits .f32 0x43000000#32 = ((128 : ℝ) : EReal) := by
  simp [Ideal.ofBits, Ideal.ieee, -EReal.coe_mul]; norm_num

/-- The constant 256. -/
theorem c256 : Ideal.ofBits .f32 0x43800000#32 = ((256 : ℝ) : EReal) := by
  simp [Ideal.ofBits, Ideal.ieee, -EReal.coe_mul]; norm_num

/-- The constant one over 128. -/
theorem c128inv : Ideal.ofBits .f32 0x3C000000#32 = ((1 / 128 : ℝ) : EReal) := by
  simp [Ideal.ofBits, Ideal.ieee, -EReal.coe_mul]; norm_num

/-- The bf16 constant one over 256. -/
theorem c256inv : Ideal.ofBits .bf16 0x3B80#16 = ((1 / 256 : ℝ) : EReal) := by
  simp [Ideal.ofBits, Ideal.ieee, -EReal.coe_mul]; norm_num

/-- The constant infinity. -/
theorem cInf : Ideal.ofBits .f32 0x7F800000#32 = ⊤ := by
  simp [Ideal.ofBits, Ideal.ieee]

/-- The guard added to both variances, as a real. -/
def eps : ℝ := 10995116 * (2 : ℝ) ^ (-40 : ℤ)

/-- The guard is positive. -/
theorem eps_pos : 0 < eps := by unfold eps; positivity

/-- The guard's bit pattern. -/
theorem cEps : Ideal.ofBits .f32 0x3727C5AC#32 = (eps : EReal) := by
  simp [Ideal.ofBits, Ideal.ieee, eps, -EReal.coe_mul]

end Cert.Hand

end
-- ==== Proof.Math.Norm.lean ====
/- Layer normalisation of one row, three ways.

   The reference subtracts the mean, divides by the root of the mean squared deviation plus a guard, and scales. The first
   result of the kernel takes the variance as the mean of the squares less the square of the mean. The second result of the
   kernel multiplies the row by a centring matrix whose columns already carry the scales, and takes the variance as a sum in
   which each column's square is divided by 128 times the square of its scale. Here the three are equal, entry by entry, on
   rows of real entries; and on a row with an infinite entry the last equals the first because both give zero. -/
module

public import proofs.«01_k».proof.Proof.Math.Reals

@[expose] public section

noncomputable section

namespace Cert.Hand

open Idealize.ShloMosaic
open scoped BigOperators

/-- The reference's normalised entry before scaling: the deviation from the mean over the guarded root of the variance. -/
def normed {n : ℕ} (N : EReal) (e : EReal) (x : Fin n → EReal) (j : Fin n) : EReal :=
  Ideal.div (x j - Ideal.div (∑ k, x k) N)
    (Ideal.sqrt (Ideal.div (∑ k, (x k - Ideal.div (∑ i, x i) N) * (x k - Ideal.div (∑ i, x i) N)) N + e))

/-- The mean of a row of reals. -/
def mean {n : ℕ} (N : ℝ) (x : Fin n → ℝ) : ℝ := (∑ k, x k) / N

/-- The guarded root of the mean squared deviation of a row of reals. -/
def spread {n : ℕ} (N : ℝ) (x : Fin n → ℝ) : ℝ := Real.sqrt ((∑ k, (x k - mean N x) * (x k - mean N x)) / N + eps)

/-- The guarded variance is positive. -/
theorem var_pos {n : ℕ} {N : ℝ} (hN : 0 < N) (x : Fin n → ℝ) :
    0 < (∑ k, (x k - mean N x) * (x k - mean N x)) / N + eps :=
  add_pos_of_nonneg_of_pos (div_nonneg (Finset.sum_nonneg fun _ _ => mul_self_nonneg _) hN.le) eps_pos

/-- The guarded root is positive. -/
theorem spread_pos {n : ℕ} {N : ℝ} (hN : 0 < N) (x : Fin n → ℝ) : 0 < spread N x := Real.sqrt_pos.2 (var_pos hN x)

/-- On a row of reals the reference's entry is the deviation over the guarded root. -/
theorem normed_real {n : ℕ} {N : ℝ} (hN : 0 < N) (x : Fin n → ℝ) (j : Fin n) :
    normed (N : EReal) (eps : EReal) (fun k => (x k : EReal)) j = (((x j - mean N x) / spread N x : ℝ) : EReal) := by
  have hs : Real.sqrt ((∑ k, (x k - mean N x) * (x k - mean N x)) / N + eps) ≠ 0 := (spread_pos hN x).ne'
  unfold normed
  simp only [sum_real, div_real _ hN.ne', ← EReal.coe_sub, ← EReal.coe_mul, ← EReal.coe_add]
  change Ideal.div (((x j - mean N x : ℝ)) : EReal)
    (Ideal.sqrt ((((∑ k, (x k - mean N x) * (x k - mean N x)) / N + eps : ℝ)) : EReal)) = _
  rw [sqrt_real (var_pos hN x).le, div_real _ hs]
  rfl

/-- The mean of the squares less the square of the mean is the mean squared deviation, for a row of 256. -/
theorem var_eq (x : Fin 256 → ℝ) :
    (∑ k, x k * x k * (1 / 256)) - (∑ k, x k * (1 / 256)) * (∑ k, x k * (1 / 256))
      = (∑ k, (x k - mean 256 x) * (x k - mean 256 x)) / 256 := by
  have h : ∀ m : ℝ, ∑ k, (x k - m) * (x k - m) = (∑ k, x k * x k) - 2 * m * (∑ k, x k) + 256 * (m * m) := by
    intro m
    have : ∀ k, (x k - m) * (x k - m) = x k * x k - 2 * m * x k + m * m := fun k => by ring
    simp only [this, Finset.sum_add_distrib, Finset.sum_sub_distrib, ← Finset.mul_sum, Finset.sum_const,
      Finset.card_univ, Fintype.card_fin, nsmul_eq_mul]
    push_cast; ring
  rw [h, ← Finset.sum_mul, ← Finset.sum_mul]
  unfold mean
  ring

/-- The kernel's normalised row of 256 is the reference's, on a row of reals. -/
theorem msa_row (x : Fin 256 → ℝ) (j : Fin 256) :
    ((x j : EReal) - ∑ k, (x k : EReal) * ((1 / 256 : ℝ) : EReal))
        * Ideal.rsqrt ((∑ k, (x k : EReal) * (x k : EReal) * ((1 / 256 : ℝ) : EReal))
            - (∑ k, (x k : EReal) * ((1 / 256 : ℝ) : EReal)) * (∑ k, (x k : EReal) * ((1 / 256 : ℝ) : EReal)) + (eps : EReal))
      = normed ((256 : ℝ) : EReal) (eps : EReal) (fun k => (x k : EReal)) j := by
  rw [normed_real (by norm_num) x j]
  simp only [← EReal.coe_mul, sum_real, ← EReal.coe_sub, ← EReal.coe_add]
  rw [var_eq, rsqrt_real (var_pos (by norm_num) x), ← EReal.coe_mul, ← Finset.sum_mul]
  congr 1
  unfold spread mean
  rw [div_eq_mul_inv]
  congr 2
  ring

/-- One column of the scaled centring matrix: one at the column's own row, less one over 128, times the column's scale. -/
def centring (g : Fin 128 → EReal) (k j : Fin 128) : EReal :=
  ((if k = j then (1 : EReal) else 0) - ((1 / 128 : ℝ) : EReal)) * g j

/-- The row times the scaled centring matrix. -/
def centred (x g : Fin 128 → EReal) (j : Fin 128) : EReal := ∑ k, x k * centring g k j

/-- The kernel's variance: each entry's square over 128 times the square of its column's scale, summed, plus the guard. -/
def weighted (x g : Fin 128 → EReal) : EReal :=
  ∑ j, centred x g j * centred x g j * Ideal.div 1 (((128 : ℝ) : EReal) * g j * g j) + (eps : EReal)

/-- An entry of the scaled centring matrix, for real scales. -/
theorem centring_real (g : Fin 128 → ℝ) (k j : Fin 128) :
    centring (fun i => (g i : EReal)) k j = ((((if k = j then 1 else 0) - 1 / 128) * g j : ℝ) : EReal) := by
  unfold centring
  split
  · rw [EReal.coe_mul, EReal.coe_sub, EReal.coe_one]
  · rw [EReal.coe_mul, EReal.coe_sub, EReal.coe_zero]

/-- A row of reals times the scaled centring matrix: the deviation from the mean, scaled. -/
theorem centred_real (x g : Fin 128 → ℝ) (j : Fin 128) :
    centred (fun i => (x i : EReal)) (fun i => (g i : EReal)) j = (((x j - mean 128 x) * g j : ℝ) : EReal) := by
  unfold centred
  simp only [centring_real, ← EReal.coe_mul, sum_real]
  congr 1
  have h : ∀ k, x k * (((if k = j then 1 else 0) - 1 / 128) * g j)
      = (if k = j then x k * g j else 0) - x k * (1 / 128 * g j) := fun k => by split <;> ring
  simp only [h, Finset.sum_sub_distrib, Finset.sum_ite_eq', Finset.mem_univ, if_true, ← Finset.sum_mul]
  unfold mean
  ring

/-- On a row of reals and scales that are not zero the kernel's variance is the guarded mean squared deviation. -/
theorem weighted_real (x g : Fin 128 → ℝ) (hg : ∀ j, g j ≠ 0) :
    weighted (fun i => (x i : EReal)) (fun i => (g i : EReal))
      = (((∑ k, (x k - mean 128 x) * (x k - mean 128 x)) / 128 + eps : ℝ) : EReal) := by
  unfold weighted
  have h : ∀ j, centred (fun i => (x i : EReal)) (fun i => (g i : EReal)) j
        * centred (fun i => (x i : EReal)) (fun i => (g i : EReal)) j
        * Ideal.div 1 (((128 : ℝ) : EReal) * (g j : EReal) * (g j : EReal))
      = (((x j - mean 128 x) * (x j - mean 128 x) / 128 : ℝ) : EReal) := by
    intro j
    have hd : 128 * g j * g j ≠ 0 := mul_ne_zero (mul_ne_zero (by norm_num) (hg j)) (hg j)
    rw [centred_real, ← EReal.coe_mul, ← EReal.coe_mul, ← EReal.coe_mul, ← EReal.coe_one, div_real _ hd, ← EReal.coe_mul]
    congr 1
    have := hg j
    field_simp
  simp only [h, sum_real, ← EReal.coe_add, Finset.sum_div]

/-- The kernel's scaled row of 128 is the reference's, whatever the row, for scales that are real and not zero. -/
theorem pair_row (x : Fin 128 → EReal) (g : Fin 128 → ℝ) (hg : ∀ j, g j ≠ 0) (j : Fin 128) :
    centred x (fun i => (g i : EReal)) j * Ideal.rsqrt (weighted x (fun i => (g i : EReal)))
      = normed ((128 : ℝ) : EReal) (eps : EReal) x j * (g j : EReal)
    ∧ ∃ r : ℝ, normed ((128 : ℝ) : EReal) (eps : EReal) x j * (g j : EReal) = (r : EReal) := by
  by_cases hx : ∀ k, ∃ r : ℝ, x k = (r : EReal)
  · choose y hy using hx
    obtain rfl : x = fun k => (y k : EReal) := funext hy
    rw [centred_real, weighted_real y g hg, rsqrt_real (var_pos (by norm_num) y), normed_real (by norm_num) y j,
      ← EReal.coe_mul, ← EReal.coe_mul]
    refine ⟨?_, _, rfl⟩
    congr 1
    unfold spread
    rw [div_eq_mul_inv]
    ring
  · obtain ⟨k, hk⟩ := not_forall.1 hx
    have hinf : x k = ⊥ ∨ x k = ⊤ := (real_or_infinite (x k)).resolve_right hk
    have hc : ∀ j, centred x (fun i => (g i : EReal)) j = ⊥ ∨ centred x (fun i => (g i : EReal)) j = ⊤ := by
      intro j
      refine sum_infinite _ _ k (Finset.mem_univ k) ?_
      rw [centring_real]
      refine mul_infinite hinf (mul_ne_zero ?_ (hg j))
      split <;> norm_num
    have hw : weighted x (fun i => (g i : EReal)) = ⊤ := by
      unfold weighted
      rw [sum_top]
      · exact EReal.top_add_coe _
      · intro j
        have hd : 128 * g j * g j ≠ 0 := mul_ne_zero (mul_ne_zero (by norm_num) (hg j)) (hg j)
        rw [sq_infinite (hc j), ← EReal.coe_mul, ← EReal.coe_mul, ← EReal.coe_one, div_real _ hd]
        refine EReal.top_mul_coe_of_pos (one_div_pos.2 ?_)
        have := mul_self_pos.2 (hg j)
        nlinarith
    have hm : Ideal.div (∑ i, x i) ((128 : ℝ) : EReal) = ⊥ ∨ Ideal.div (∑ i, x i) ((128 : ℝ) : EReal) = ⊤ :=
      div_infinite (sum_infinite _ _ k (Finset.mem_univ k) hinf) (by norm_num)
    have hn : normed ((128 : ℝ) : EReal) (eps : EReal) x j = 0 := by
      unfold normed
      have ht : Ideal.div ⊤ ((128 : ℝ) : EReal) = ⊤ := by
        rw [Ideal.div_coe (by norm_num), EReal.top_mul_coe_of_pos (by norm_num)]
      rw [sum_top _ fun k => sq_infinite (sub_infinite hm), ht, EReal.top_add_coe, Ideal.sqrt_top, div_top]
    rw [hw, Ideal.rsqrt_top, mul_zero, hn, zero_mul]
    exact ⟨rfl, 0, EReal.coe_zero.symm⟩

end Cert.Hand

end
-- ==== Proof.Value.PairKernel.lean ====
/- The second result, as the kernel's block computes it, entry by entry.

   The masks are comparisons of the squared distance with the squared midpoints, the table is the fifteen rows of the
   embedding with both biases, and the block is the row times the scaled centring matrix, times the reciprocal root of the
   variance, plus the masks times the table's differences. -/
module

public import proofs.«01_k».proof.Proof.Launch.Setup
public import proofs.«01_k».proof.Proof.Math.Norm
public import Idealize.ShloMosaic.Lib.Pointwise

@[expose] public section

set_option maxRecDepth 16384

noncomputable section

namespace Cert.Hand

open Idealize.ShloMosaic Cert.KernelIdeal.Gen
open scoped BigOperators

/-- A one-bit word widened and converted is one or zero. -/
theorem bit_real (p : Bool) :
    FloatOps.sitofp (F := Ideal) .f32 (BitVec.setWidth 32 (BitVec.ofBool p)) = if p then (1 : EReal) else 0 := by
  cases p
  · show (((BitVec.setWidth 32 (BitVec.ofBool false)).toInt : ℝ) : EReal) = _
    simp
  · show (((BitVec.setWidth 32 (BitVec.ofBool true)).toInt : ℝ) : EReal) = _
    simp

/-- Two row numbers below 128 are equal as words exactly when they are equal. -/
theorem word_eq (k j : Fin 128) :
    IntOp.cmpi .eq (IntOp.addi (BitVec.ofNat 32 k.val) 0#32) (BitVec.ofNat 32 j.val) = BitVec.ofBool (decide (k = j)) := by
  have h : (BitVec.ofNat 32 k.val = BitVec.ofNat 32 j.val) ↔ k = j := by
    constructor
    · intro e
      have e' := congrArg BitVec.toNat e
      simp only [BitVec.toNat_ofNat] at e'
      exact Fin.ext (by omega)
    · rintro rfl; rfl
  have e : IntOp.addi (BitVec.ofNat 32 k.val) 0#32 = BitVec.ofNat 32 k.val := BitVec.add_zero _
  rw [e]
  show BitVec.ofBool (BitVec.ofNat 32 k.val == BitVec.ofNat 32 j.val) = _
  rw [beq_eq_decide]
  simp only [h]

/-- The squared distance as the kernel adds it up. -/
def d2 (a : FVec Ideal ⟨2, ![3, 512]⟩ .f32) (b : FVec Ideal ⟨2, ![32, 3]⟩ .f32) (n : Fin 32) (s : Fin 512) : EReal :=
  (b (ix2 n 0) - a (ix2 0 s)) * (b (ix2 n 0) - a (ix2 0 s)) + (b (ix2 n 1) - a (ix2 1 s)) * (b (ix2 n 1) - a (ix2 1 s))
    + (b (ix2 n 2) - a (ix2 2 s)) * (b (ix2 n 2) - a (ix2 2 s))

/-- A mask: one where the squared distance lies above the squared midpoint, else zero. -/
theorem mask_apply (a : FVec Ideal ⟨2, ![3, 512]⟩ .f32) (b : FVec Ideal ⟨2, ![32, 3]⟩ .f32) (c : FVec Ideal ⟨2, ![1, 15]⟩ .f32)
    (n : Fin 32) (s : Fin 512) (k : Fin 15) (h : n.val * 512 + s.val < 16384) :
    k0_pay2 (F := Ideal) a b c (ix2 ⟨n.val * 512 + s.val, h⟩ k)
      = if decide (c (ix2 0 k) < d2 a b n s) then (1 : EReal) else 0 := by
  pointwise [k0_pay2]
  exact bit_real _

/-- The table: a bin's embedding with both biases. -/
theorem table_apply (a : FVec Ideal ⟨2, ![15, 128]⟩ .f32) (b c : FVec Ideal ⟨2, ![1, 128]⟩ .f32) (k : Fin 15) (j : Fin 128) :
    k0_pay3 (F := Ideal) a b c (ix2 k j) = a (ix2 k j) + b (ix2 0 j) + c (ix2 0 j) := by
  pointwise [k0_pay3]

/-- The table's first row. -/
theorem table0_apply (a : FVec Ideal ⟨2, ![15, 128]⟩ .f32) (b c : FVec Ideal ⟨2, ![1, 128]⟩ .f32) (j : Fin 128) :
    k0_pay4 (F := Ideal) a b c (ix2 0 j) = a (ix2 0 j) + b (ix2 0 j) + c (ix2 0 j) := by
  pointwise [k0_pay4, k0_pay3]

/-- The block at an index, from masks, table and scales. -/
theorem block_apply (a : FVec Ideal ⟨2, ![16384, 15]⟩ .bf16) (b : FVec Ideal ⟨2, ![15, 128]⟩ .f32)
    (c d : FVec Ideal ⟨2, ![1, 128]⟩ .f32) (x : FVec Ideal ⟨3, ![32, 512, 128]⟩ .f32) (n : Fin 32) (s : Fin 512) (j : Fin 128) :
    k0_pay5 (F := Ideal) a b c d x (ix3 n s j)
      = centred (fun k => x (ix3 n s k)) (fun k => d (ix2 0 k)) j
          * Ideal.rsqrt (weighted (fun k => x (ix3 n s k)) (fun k => d (ix2 0 k)))
        + (a (ix2 ⟨n.val * 512 + s.val, by omega⟩ 0) * c (ix2 0 j)
          + ∑ k : Fin 14, a (ix2 ⟨n.val * 512 + s.val, by omega⟩ ⟨1 + k.val, by omega⟩)
              * (b (ix2 ⟨1 + k.val, by omega⟩ j) - b (ix2 ⟨k.val, by omega⟩ j))) := by
  unfold centred weighted centred centring
  rw [← c128inv, ← c128, ← cEps]
  pointwise [k0_pay5]
  simp only [word_eq, bit_real, decide_eq_true_eq, Finset.univ_unique, Finset.sum_singleton]

/-- The kernel's block of the second result at an index, in terms of its windows. -/
theorem pairBlock_apply (x0 : FVec Ideal ⟨2, ![3, 512]⟩ .f32) (x1 : FVec Ideal ⟨2, ![32, 3]⟩ .f32)
    (x2 : FVec Ideal ⟨2, ![1, 15]⟩ .f32) (x3 : FVec Ideal ⟨2, ![15, 128]⟩ .f32) (x4 x5 x6 : FVec Ideal ⟨2, ![1, 128]⟩ .f32)
    (x : FVec Ideal ⟨3, ![32, 512, 128]⟩ .f32) (n : Fin 32) (s : Fin 512) (j : Fin 128) :
    Cert.KernelIdeal.Launch.pairBlock (F := Ideal) x0 x1 x2 x3 x4 x5 x6 x (ix3 n s j)
      = centred (fun k => x (ix3 n s k)) (fun k => x5 (ix2 0 k)) j
          * Ideal.rsqrt (weighted (fun k => x (ix3 n s k)) (fun k => x5 (ix2 0 k)))
        + ((if decide (x2 (ix2 0 0) < d2 x0 x1 n s) then (1 : EReal) else 0) * (x3 (ix2 0 j) + x4 (ix2 0 j) + x6 (ix2 0 j))
          + ∑ k : Fin 14, (if decide (x2 (ix2 0 ⟨1 + k.val, by omega⟩) < d2 x0 x1 n s) then (1 : EReal) else 0)
              * ((x3 (ix2 ⟨1 + k.val, by omega⟩ j) + x4 (ix2 0 j) + x6 (ix2 0 j))
                - (x3 (ix2 ⟨k.val, by omega⟩ j) + x4 (ix2 0 j) + x6 (ix2 0 j)))) := by
  unfold Cert.KernelIdeal.Launch.pairBlock
  rw [block_apply, mask_apply, table0_apply]
  simp only [mask_apply, table_apply]

end Cert.Hand

end
-- ==== Proof.Math.Bins.lean ====
/- The nearest bin, and the telescoping table.

   Fifteen bins lie on a line, so the bin nearest to a distance is found by counting the midpoints below the distance. The
   kernel compares squares with squares and counts by adding up differences of table rows; the reference takes the least of
   fifteen gaps, the lower index where two are equal. This module has the facts about reals and about the fold of the
   reference's combining function that make the two agree. -/
module

public import proofs.«01_k».proof.Proof.Math.Reals
public import proofs.«01_k».proof.ReferenceIdeal

@[expose] public section

noncomputable section

namespace Cert.Hand

open Idealize.ShloMosaic
open scoped BigOperators

/-- The fifteen bins as reals. -/
def bin (k : Fin 15) : ℝ := if k.val = 0 then 27 / 8 else 41 / 8 + 5 / 4 * (k.val - 1 : ℝ)

/-- The midpoint between a bin and the bin before it (the first bin has none). -/
def mid (k : Fin 15) : ℝ := if k.val = 1 then 17 / 4 else 13 / 4 + 5 / 4 * k.val

/-- The bins go up. -/
theorem bin_lt {a b : Fin 15} (h : a < b) : bin a < bin b := by
  have h' : a.val < b.val := h
  have h1 : (a.val : ℝ) + 1 ≤ (b.val : ℝ) := by exact_mod_cast h'
  have h2 : (0 : ℝ) ≤ (a.val : ℝ) := by positivity
  unfold bin
  rw [if_neg (show ¬ b.val = 0 by omega)]
  split
  · linarith
  · linarith

/-- The midpoints go up. -/
theorem mid_le {a b : Fin 15} (ha : a.val ≠ 0) (h : a ≤ b) : mid a ≤ mid b := by
  have h' : a.val ≤ b.val := h
  have h1 : (a.val : ℝ) ≤ (b.val : ℝ) := by exact_mod_cast h'
  unfold mid
  split
  · split
    · exact le_rfl
    · have : 2 ≤ b.val := by omega
      have : (2 : ℝ) ≤ (b.val : ℝ) := by exact_mod_cast this
      linarith
  · rw [if_neg (show ¬ b.val = 1 by omega)]
    linarith

/-- A midpoint lies halfway between its two bins. -/
theorem bin_add_bin (a b : Fin 15) (h : b.val = a.val + 1) : bin a + bin b = 2 * mid b := by
  have h1 : (b.val : ℝ) = (a.val : ℝ) + 1 := by exact_mod_cast h
  unfold bin mid
  rw [if_neg (show ¬ b.val = 0 by omega), h1]
  by_cases h0 : a.val = 0
  · rw [if_pos h0, if_pos (show b.val = 1 by omega), h0]; norm_num
  · rw [if_neg h0, if_neg (show ¬ b.val = 1 by omega)]; ring

/-- Of two points the upper is strictly nearer exactly to what lies above their midpoint. -/
theorem nearer_upper {a b d : ℝ} (hab : a < b) (h : a + b < 2 * d) : |d - b| < |d - a| := by
  rw [abs_of_pos (show 0 < d - a by linarith), abs_lt]
  constructor <;> linarith

/-- Of two points the lower is at least as near to what does not lie above their midpoint. -/
theorem nearer_lower {a b d : ℝ} (hab : a < b) (h : 2 * d ≤ a + b) : |d - a| ≤ |d - b| := by
  rw [abs_sub_comm d b, abs_of_nonneg (show 0 ≤ b - d by linarith), abs_le]
  constructor <;> linarith

/-- For every distance there is a bin such that the midpoints below the distance are those up to that bin. -/
theorem exists_bin (d : ℝ) : ∃ m : Fin 15, ∀ k : Fin 15, k ≤ m ↔ (k.val = 0 ∨ mid k < d) := by
  classical
  let s : Finset (Fin 15) := Finset.univ.filter fun k => k.val = 0 ∨ mid k < d
  have hs : s.Nonempty := ⟨0, by simp [s]⟩
  refine ⟨s.max' hs, fun k => ⟨fun hk => ?_, fun hk => Finset.le_max' s k (by simpa [s] using hk)⟩⟩
  have hm : s.max' hs ∈ s := Finset.max'_mem s hs
  by_cases h0 : k.val = 0
  · exact .inl h0
  · refine .inr ?_
    rcases (Finset.mem_filter.1 hm).2 with h | h
    · have : k.val ≤ (s.max' hs).val := hk
      omega
    · exact lt_of_le_of_lt (mid_le h0 hk) h

/-- Every bin below that one is strictly farther, and every bin above it is at least as far. -/
theorem bin_nearest {d : ℝ} {m : Fin 15} (hm : ∀ k : Fin 15, k ≤ m ↔ (k.val = 0 ∨ mid k < d)) (k : Fin 15) :
    (k < m → |d - bin m| < |d - bin k|) ∧ (m < k → |d - bin m| ≤ |d - bin k|) := by
  constructor
  · intro hk
    have hk' : k.val < m.val := hk
    refine nearer_upper (bin_lt hk) ?_
    have h1 : mid m < d := ((hm m).1 le_rfl).resolve_left (by omega)
    have hp : bin ⟨m.val - 1, by omega⟩ + bin m = 2 * mid m := bin_add_bin _ _ (by simp; omega)
    have h2 : bin k ≤ bin ⟨m.val - 1, by omega⟩ := by
      rcases Nat.lt_or_ge k.val (m.val - 1) with h | h
      · exact (bin_lt (Fin.lt_def.2 h)).le
      · exact le_of_eq (congrArg bin (Fin.ext (by simp; omega)))
    linarith
  · intro hk
    have hk' : m.val < k.val := hk
    refine nearer_lower (bin_lt hk) ?_
    have hk2 := k.isLt
    have h1 : d ≤ mid ⟨m.val + 1, by omega⟩ := by
      by_contra h
      have := (hm ⟨m.val + 1, by omega⟩).2 (.inr (not_le.1 h))
      have : m.val + 1 ≤ m.val := this
      omega
    have hp : bin m + bin ⟨m.val + 1, by omega⟩ = 2 * mid ⟨m.val + 1, by omega⟩ := bin_add_bin _ _ rfl
    have h2 : bin ⟨m.val + 1, by omega⟩ ≤ bin k := by
      rcases Nat.lt_or_ge (m.val + 1) k.val with h | h
      · exact (bin_lt (Fin.lt_def.2 h)).le
      · exact le_of_eq (congrArg bin (Fin.ext (by simp; omega)))
    linarith

/-- A sum of the first row and of the differences of neighbouring rows up to row `m` is row `m`. -/
theorem telescope (t : Fin 15 → ℝ) (m : Fin 15) :
    t 0 + ∑ x : Fin 14, (if (x.val + 1 ≤ m.val) then (1 : ℝ) else 0)
        * (t ⟨1 + x.val, by omega⟩ - t ⟨x.val, by omega⟩) = t m := by
  have h : ∀ n : ℕ, ∀ hn : n < 15,
      t 0 + ∑ x ∈ Finset.range n, (if h : x + 1 < 15 then t ⟨1 + x, by omega⟩ - t ⟨x, by omega⟩ else 0) = t ⟨n, hn⟩ := by
    intro n
    induction n with
    | zero => intro hn; simp
    | succ n ih =>
      intro hn
      rw [Finset.sum_range_succ, ← add_assoc, ih (by omega), dif_pos (by omega)]
      have : (⟨1 + n, by omega⟩ : Fin 15) = ⟨n + 1, hn⟩ := Fin.ext (by simp; omega)
      rw [this]; ring
  rw [← h m.val m.isLt]
  congr 1
  rw [Finset.sum_fin_eq_sum_range, ← Finset.sum_subset (s₁ := Finset.range m.val)]
  · refine Finset.sum_congr rfl fun x hx => ?_
    have hx' := Finset.mem_range.1 hx
    have := m.isLt
    rw [dif_pos (show x < 14 by omega), dif_pos (show x + 1 < 15 by omega), if_pos (show x + 1 ≤ m.val by omega), one_mul]
  · intro x hx
    have := Finset.mem_range.1 hx
    have := m.isLt
    exact Finset.mem_range.2 (by omega)
  · intro x _ hx
    have hx' : ¬ x < m.val := fun h => hx (Finset.mem_range.2 h)
    split
    · rw [if_neg (show ¬ x + 1 ≤ m.val by omega), zero_mul]
    · rfl

/-- What a pair must be for the fold to prefer `(v, ofNat m)` to it: a larger value, an equal value at a larger index, or
    that pair itself. -/
def Behind (v : EReal) (m : Fin 15) (p : EReal × BitVec 32) : Prop :=
  v < p.1 ∨ (v = p.1 ∧ ∃ k : Fin 15, m < k ∧ p.2 = BitVec.ofNat 32 k.val) ∨ p = (v, BitVec.ofNat 32 m.val)

/-- The signed order of two indices below fifteen is their order. -/
theorem slt_small : ∀ a b : Fin 15, (BitVec.ofNat 32 a.val).slt (BitVec.ofNat 32 b.val) = decide (a < b) := by decide

/-- The combining function keeps the preferred pair when it comes first. -/
theorem step_left {v : EReal} {m : Fin 15} {p : EReal × BitVec 32} (h : Behind v m p) :
    Cert.ReferenceIdeal.reducer_argmin_f32_i32 (F := Ideal) (v, BitVec.ofNat 32 m.val) p = (v, BitVec.ofNat 32 m.val) := by
  obtain ⟨w, b⟩ := p
  rcases h with h | ⟨h, k, hk, hb⟩ | h
  · have h' : v < w := h
    simp [Cert.ReferenceIdeal.reducer_argmin_f32_i32, Ideal.cmpf_def, Ideal.cmp, h', h'.ne, IntOp.ori, Scalar.select, IntOp.andi]
  · obtain rfl : v = w := h
    obtain rfl : b = _ := hb
    simp [Cert.ReferenceIdeal.reducer_argmin_f32_i32, Ideal.cmpf_def, Ideal.cmp, IntOp.ori, Scalar.select, IntOp.andi,
      IntOp.cmpi, slt_small, hk]
  · obtain ⟨rfl, rfl⟩ := Prod.mk.inj h
    simp [Cert.ReferenceIdeal.reducer_argmin_f32_i32, Scalar.select]

/-- The combining function takes the preferred pair when it comes second. -/
theorem step_right {v : EReal} {m : Fin 15} {p : EReal × BitVec 32} (h : Behind v m p) :
    Cert.ReferenceIdeal.reducer_argmin_f32_i32 (F := Ideal) p (v, BitVec.ofNat 32 m.val) = (v, BitVec.ofNat 32 m.val) := by
  obtain ⟨w, b⟩ := p
  rcases h with h | ⟨h, k, hk, hb⟩ | h
  · have h' : v < w := h
    simp [Cert.ReferenceIdeal.reducer_argmin_f32_i32, Ideal.cmpf_def, Ideal.cmp, h'.not_gt, h'.ne', IntOp.ori, Scalar.select, IntOp.andi]
  · obtain rfl : v = w := h
    obtain rfl : b = _ := hb
    simp [Cert.ReferenceIdeal.reducer_argmin_f32_i32, Ideal.cmpf_def, Ideal.cmp, IntOp.ori, Scalar.select, IntOp.andi,
      IntOp.cmpi, slt_small, hk.not_gt]
  · obtain ⟨rfl, rfl⟩ := Prod.mk.inj h
    simp [Cert.ReferenceIdeal.reducer_argmin_f32_i32, Scalar.select]

/-- The combining function returns one of its two pairs. -/
theorem step_mem (a b : EReal × BitVec 32) :
    Cert.ReferenceIdeal.reducer_argmin_f32_i32 (F := Ideal) a b = a
      ∨ Cert.ReferenceIdeal.reducer_argmin_f32_i32 (F := Ideal) a b = b := by
  obtain ⟨v, i⟩ := a
  obtain ⟨w, j⟩ := b
  by_cases h : v < w
  · left
    simp [Cert.ReferenceIdeal.reducer_argmin_f32_i32, Ideal.cmpf_def, Ideal.cmp, h, h.ne, IntOp.ori, Scalar.select, IntOp.andi]
  · by_cases h' : v = w
    · subst h'
      by_cases hij : i.slt j
      · left
        simp [Cert.ReferenceIdeal.reducer_argmin_f32_i32, Ideal.cmpf_def, Ideal.cmp, IntOp.ori, Scalar.select, IntOp.andi,
          IntOp.cmpi, hij]
      · right
        simp [Cert.ReferenceIdeal.reducer_argmin_f32_i32, Ideal.cmpf_def, Ideal.cmp, IntOp.ori, Scalar.select, IntOp.andi,
          IntOp.cmpi, hij]
    · right
      simp [Cert.ReferenceIdeal.reducer_argmin_f32_i32, Ideal.cmpf_def, Ideal.cmp, h, h', IntOp.ori, Scalar.select, IntOp.andi]

/-- The fold over a list in which every pair stands behind `(v, ofNat m)` ends at that pair, if it starts there or meets
    it on the way. -/
theorem fold_nearest {v : EReal} {m : Fin 15} (l : List (EReal × BitVec 32)) (a : EReal × BitVec 32)
    (ha : Behind v m a) (hl : ∀ p ∈ l, Behind v m p)
    (hmem : a = (v, BitVec.ofNat 32 m.val) ∨ (v, BitVec.ofNat 32 m.val) ∈ l) :
    l.foldl (Cert.ReferenceIdeal.reducer_argmin_f32_i32 (F := Ideal)) a = (v, BitVec.ofNat 32 m.val) := by
  induction l generalizing a with
  | nil => exact hmem.resolve_right (by simp)
  | cons p l ih =>
    rw [List.foldl_cons]
    have hp : Behind v m p := hl p (by simp)
    refine ih _ ?_ (fun q hq => hl q (by simp [hq])) ?_
    · rcases step_mem a p with h | h <;> rw [h] <;> assumption
    · rcases hmem with rfl | h
      · exact .inl (step_left hp)
      · rcases List.mem_cons.1 h with rfl | h
        · exact .inl (step_right ha)
        · exact .inr h

end Cert.Hand

end
-- ==== Proof.Value.Nearest.lean ====
/- The bin the reference picks.

   The reference's argument of the least gap is a fold over the fifteen gaps of a pair of rows. Where the coordinates are
   real, the fold ends at the bin below which the distance's midpoints lie. -/
module

public import proofs.«01_k».proof.Proof.Ref.Run
public import proofs.«01_k».proof.Proof.Math.Bins
public import Idealize.ShloMosaic.Lib.Pointwise

@[expose] public section

set_option maxRecDepth 16384

noncomputable section

namespace Cert.Hand

open Idealize.ShloMosaic Cert.ReferenceIdeal.Hand

/-- The squared distance of two rows of real coordinates. -/
def dist2 (y : Shape.Idx ⟨2, ![512, 3]⟩ → ℝ) (r s : Fin 512) : ℝ :=
  ∑ k : Fin 3, (y (ix2 r k) - y (ix2 s k)) * (y (ix2 r k) - y (ix2 s k))

/-- A squared distance is not negative. -/
theorem dist2_nonneg (y : Shape.Idx ⟨2, ![512, 3]⟩ → ℝ) (r s : Fin 512) : 0 ≤ dist2 y r s :=
  Finset.sum_nonneg fun _ _ => mul_self_nonneg _

/-- The reference's bins are the fifteen real ones. -/
theorem bins_apply (k : Fin 15) : bins (F := Ideal) (ix1 k) = (bin k : EReal) := by
  have e0 : Ideal.ofBits .f32 0x40580000#32 = ((27 / 8 : ℝ) : EReal) := by
    simp [Ideal.ofBits, Ideal.ieee, -EReal.coe_mul]; norm_num
  have e1 : Ideal.ofBits .f32 0x40A40000#32 = ((41 / 8 : ℝ) : EReal) := by
    simp [Ideal.ofBits, Ideal.ieee, -EReal.coe_mul]; norm_num
  have e2 : Ideal.ofBits .f32 0x3FA00000#32 = ((5 / 4 : ℝ) : EReal) := by
    simp [Ideal.ofBits, Ideal.ieee, -EReal.coe_mul]; norm_num
  have hw : ∀ k : Fin 15, k.val ≠ 0 → (BitVec.ofNat 32 (k.val - 1)).toInt = (k.val : ℤ) - 1 := by decide
  pointwise [bins, joinBins]
  rw [e0, e1, e2]
  by_cases h0 : k.val = 0
  · rw [dif_pos (by omega)]
    unfold bin
    rw [if_pos h0]
  · rw [dif_neg (by omega)]
    have hs : FloatOps.sitofp (F := Ideal) .f32 (BitVec.ofNat 32 (k.val - 1)) = (((k.val : ℝ) - 1 : ℝ) : EReal) := by
      show (((BitVec.ofNat 32 (k.val - 1)).toInt : ℝ) : EReal) = _
      rw [hw k h0]
      push_cast
      rfl
    rw [hs, ← EReal.coe_mul, ← EReal.coe_add]
    unfold bin
    rw [if_neg h0]

/-- A gap: the distance of two rows against a bin. -/
theorem gap_apply (y : Shape.Idx ⟨2, ![512, 3]⟩ → ℝ) (r s : Fin 512) (k : Fin 15) :
    gaps (F := Ideal) (lengths (offsets fun i => (y i : EReal))) bins (ix3 r s k)
      = ((|Real.sqrt (dist2 y r s) - bin k| : ℝ) : EReal) := by
  pointwise [gaps, lengths, offsets]
  rw [bins_apply]
  simp only [← EReal.coe_sub, ← EReal.coe_mul, sum_real]
  rw [show (∑ k : Fin 3, (y (ix2 r k) - y (ix2 s k)) * (y (ix2 r k) - y (ix2 s k))) = dist2 y r s from rfl,
    sqrt_real (dist2_nonneg y r s), Ideal.absf_def, ← EReal.coe_sub, ← EReal.coe_neg]
  exact (EReal.coe_strictMono.monotone.map_max).symm

/-- An argument of the least, at any shapes: where every pair of the fiber stands behind one pair of it, the index is that
    pair's. -/
theorem argmin_fiber {s t u : Shape} {axes : List (Fin s.rank)} (y : FVec Ideal s .f32) (z : IVec s 32) (ix : FVec Ideal u .f32) (iz : IVec u 32)
    (h : s.ReducesTo axes t) (hu : 0 < u.numel) (j : t.Idx) (v : EReal) (m : Fin 15)
    (hstart : Behind v m (ix (Shape.Idx.first hu), iz (Shape.Idx.first hu)))
    (hall : ∀ i, h.drop i = j → Behind v m (y i, z i)) (i : s.Idx) (hi : h.drop i = j)
    (hv : y i = v) (hz : z i = BitVec.ofNat 32 m.val) :
    leastIndex (F := Ideal) y z ix iz h hu j = BitVec.ofNat 32 m.val := by
  unfold leastIndex
  rw [Ideal.argReduce_eq_reduce2, Host.reduce2_eq_foldl_fiber]
  refine congrArg Prod.snd (fold_nearest (v := v) (m := m) _ _ hstart ?_ (.inr ?_))
  · intro p hp
    unfold Host.argReduceFiber at hp
    obtain ⟨n, hn, rfl⟩ := List.mem_map.1 hp
    exact hall _ (by simpa using (List.mem_filter.1 hn).2)
  · unfold Host.argReduceFiber
    refine List.mem_map.2 ⟨s.rowMajor i, List.mem_filter.2 ⟨List.mem_finRange _, by simpa using hi⟩, ?_⟩
    simp [hv, hz]

/-- The reference's pick among fifteen real gaps of which one is strictly less than those before it and at most those
    after it. -/
theorem nearest_of_gaps (z : FVec Ideal ⟨3, ![512, 512, 15]⟩ .f32) (r s : Fin 512) (a : Fin 15 → ℝ)
    (hz : ∀ k, z (ix3 r s k) = (a k : EReal)) (m : Fin 15) (h1 : ∀ k, k < m → a m < a k) (h2 : ∀ k, m < k → a m ≤ a k) :
    nearest (F := Ideal) z (ix2 r s) = BitVec.ofNat 32 m.val := by
  have hfib : ∀ i, (Cert.ReferenceIdeal.Gen.reducesTo_S512x512x15_S512x512_d2).drop i = ix2 r s ↔ ∃ k : Fin 15, ix3 r s k = i :=
    fun i => Shape.ReducesTo.fiber_r3_a2 _ _ i
  refine argmin_fiber (s := ⟨3, ![512, 512, 15]⟩) (t := ⟨2, ![512, 512]⟩) (u := ⟨0, ![]⟩) z (iotaInDim _ 32 2)
    (constant _ .f32 0x7F800000#32) (constantI _ 32 0#32) Cert.ReferenceIdeal.Gen.reducesTo_S512x512x15_S512x512_d2
    Cert.ReferenceIdeal.Gen.h_S_ (ix2 r s) (a m : EReal) m ?_ ?_ (ix3 r s m) ((hfib _).2 ⟨m, rfl⟩) (hz m) rfl
  · refine .inl ?_
    show _ < Ideal.ofBits .f32 0x7F800000#32
    rw [cInf]
    exact EReal.coe_lt_top _
  · intro i hi
    obtain ⟨k, rfl⟩ := (hfib i).1 hi
    rw [hz]
    rcases lt_trichotomy k m with h | rfl | h
    · exact .inl (EReal.coe_lt_coe_iff.2 (h1 k h))
    · exact .inr (.inr rfl)
    · rcases (h2 k h).lt_or_eq with h' | h'
      · exact .inl (EReal.coe_lt_coe_iff.2 h')
      · exact .inr (.inl ⟨congrArg _ h', k, h, rfl⟩)

/-- The reference picks the bin up to which the midpoints lie below the distance. -/
theorem nearest_apply (y : Shape.Idx ⟨2, ![512, 3]⟩ → ℝ) (r s : Fin 512) (m : Fin 15)
    (hm : ∀ k : Fin 15, k ≤ m ↔ (k.val = 0 ∨ mid k < Real.sqrt (dist2 y r s))) :
    nearest (F := Ideal) (gaps (lengths (offsets fun i => (y i : EReal))) bins) (ix2 r s) = BitVec.ofNat 32 m.val :=
  nearest_of_gaps _ r s (fun k => |Real.sqrt (dist2 y r s) - bin k|) (gap_apply y r s) m
    (fun k => (bin_nearest hm k).1) (fun k => (bin_nearest hm k).2)

end Cert.Hand

end
-- ==== Proof.Value.PairReference.lean ====
/- The second result, as the reference computes it, entry by entry. -/
module

public import proofs.«01_k».proof.Proof.Value.Nearest
public import proofs.«01_k».proof.Proof.Math.Norm
public import Idealize.ShloMosaic.Lib.Pointwise

@[expose] public section

set_option maxRecDepth 16384

noncomputable section

namespace Cert.Hand

open Idealize.ShloMosaic Cert.ReferenceIdeal.Hand
open scoped BigOperators

/-- The reference's normalised pair array at an index. -/
theorem pairNorm_apply (z : FVec Ideal ⟨3, ![512, 512, 128]⟩ .f32) (g t : FVec Ideal ⟨1, ![128]⟩ .f32) (r s : Fin 512) (j : Fin 128) :
    pairNorm (F := Ideal) z g t (ix3 r s j)
      = normed (Ideal.ofBits .f32 0x43000000#32) (Ideal.ofBits .f32 0x3727C5AC#32) (fun k => z (ix3 r s k)) j * g (ix1 j)
        + t (ix1 j) := by
  pointwise [pairNorm, pairCentred, pairMean, normed]

/-- An entry of the one-hot row of a small index. -/
theorem hot_real (m k : Fin 15) :
    FloatOps.uitofp (F := Ideal) .f32 (IntOp.cmpi .eq (BitVec.ofNat 32 m.val) (BitVec.ofNat 32 k.val))
      = if m = k then (1 : EReal) else 0 := by
  have h : ∀ m k : Fin 15, IntOp.cmpi .eq (BitVec.ofNat 32 m.val) (BitVec.ofNat 32 k.val) = BitVec.ofBool (decide (m = k)) := by
    decide
  rw [h]
  show (((BitVec.ofBool (decide (m = k))).toNat : ℝ) : EReal) = _
  by_cases e : m = k <;> simp [e]

/-- The embedding of one-hot rows at an index whose row is that of a small index: the column of that index, plus the bias. -/
theorem embed_apply (q : IVec ⟨2, ![512, 512]⟩ 32) (w : FVec Ideal ⟨2, ![128, 15]⟩ .f32) (b : FVec Ideal ⟨1, ![128]⟩ .f32)
    (r s : Fin 512) (j : Fin 128) (m : Fin 15) (hq : q (ix2 r s) = BitVec.ofNat 32 m.val) :
    embed (F := Ideal) (oneHot q) w b (ix3 r s j) = w (ix2 j m) + b (ix1 j) := by
  pointwise [embed, oneHot]
  rw [hq]
  simp only [hot_real, ite_mul, one_mul, zero_mul, Finset.sum_ite_eq, Finset.mem_univ, if_true]

/-- The reference's second result at an index, where the coordinates are real. -/
theorem pairOut_apply (z : FVec Ideal ⟨3, ![512, 512, 128]⟩ .f32) (y : Shape.Idx ⟨2, ![512, 3]⟩ → ℝ)
    (w : FVec Ideal ⟨2, ![128, 15]⟩ .f32) (b g t : FVec Ideal ⟨1, ![128]⟩ .f32) (r s : Fin 512) (j : Fin 128) (m : Fin 15)
    (hm : ∀ k : Fin 15, k ≤ m ↔ (k.val = 0 ∨ mid k < Real.sqrt (dist2 y r s))) :
    pairOut (F := Ideal) z (fun i => (y i : EReal)) w b g t (ix3 r s j)
      = (w (ix2 j m) + b (ix1 j))
        + (normed ((128 : ℝ) : EReal) (eps : EReal) (fun k => z (ix3 r s k)) j * g (ix1 j) + t (ix1 j)) := by
  rw [← embed_apply _ w b r s j m (nearest_apply y r s m hm), ← c128, ← cEps, ← pairNorm_apply]
  rfl

end Cert.Hand

end
-- ==== Proof.Value.Pair.lean ====
/- The second result: the kernel's block against the reference, entry by entry. -/
module

public import proofs.«01_k».proof.Proof.Value.PairKernel
public import proofs.«01_k».proof.Proof.Value.PairReference

@[expose] public section

set_option maxRecDepth 16384

noncomputable section

namespace Cert.Hand

open Idealize.ShloMosaic
open scoped BigOperators

/-- The squared midpoints the kernel compares with; the first is minus one, below every squared distance. -/
def mid2 (k : Fin 15) : ℝ := if k.val = 0 then -1 else mid k * mid k

/-- The midpoints are not negative. -/
theorem mid_nonneg (k : Fin 15) : 0 ≤ mid k := by
  unfold mid
  split
  · norm_num
  · positivity

/-- A squared distance lies above a squared midpoint exactly when the bin is among those up to the nearest. -/
theorem mask_iff {d : ℝ} (hd : 0 ≤ d) (m : Fin 15) (hm : ∀ k : Fin 15, k ≤ m ↔ (k.val = 0 ∨ mid k < Real.sqrt d)) (k : Fin 15) :
    ((mid2 k : ℝ) : EReal) < (d : EReal) ↔ k.val ≤ m.val := by
  rw [EReal.coe_lt_coe_iff, show k.val ≤ m.val ↔ k ≤ m from Iff.rfl, hm]
  unfold mid2
  by_cases h0 : k.val = 0
  · rw [if_pos h0]
    exact ⟨fun _ => .inl h0, fun _ => by linarith⟩
  · rw [if_neg h0, Real.lt_sqrt (mid_nonneg k), sq]
    exact ⟨.inr, fun h => h.resolve_left h0⟩

/-- The masks times the table's differences are the nearest bin's row of the table. -/
theorem emb_real (t : Fin 15 → ℝ) {d : ℝ} (hd : 0 ≤ d) (m : Fin 15)
    (hm : ∀ k : Fin 15, k ≤ m ↔ (k.val = 0 ∨ mid k < Real.sqrt d)) :
    (if decide ((mid2 0 : EReal) < (d : EReal)) then (1 : EReal) else 0) * (t 0 : EReal)
        + ∑ k : Fin 14, (if decide ((mid2 ⟨1 + k.val, by omega⟩ : EReal) < (d : EReal)) then (1 : EReal) else 0)
            * ((t ⟨1 + k.val, by omega⟩ : EReal) - (t ⟨k.val, by omega⟩ : EReal))
      = (t m : EReal) := by
  have hb : ∀ p : Prop, [Decidable p] → (if p then (1 : EReal) else 0) = (((if p then 1 else 0 : ℝ)) : EReal) := by
    intro p _
    split
    · exact EReal.coe_one.symm
    · exact EReal.coe_zero.symm
  have h0 : (0 : Fin 15).val ≤ m.val := Nat.zero_le _
  simp only [decide_eq_true_eq, mask_iff hd m hm, if_pos h0, one_mul]
  simp only [hb, ← EReal.coe_sub, ← EReal.coe_mul, sum_real, ← EReal.coe_add]
  rw [← telescope t m]
  simp only [Nat.add_comm 1]

/-- The kernel's block of the second result at an index is the reference's second result at the index it stands for: for
    real coordinates, embedding, biases and scales, the scales not zero, whatever the pair array. -/
theorem pair_eq (x0 : FVec Ideal ⟨2, ![3, 512]⟩ .f32) (x1 : FVec Ideal ⟨2, ![32, 3]⟩ .f32)
    (x2 : FVec Ideal ⟨2, ![1, 15]⟩ .f32) (x3 : FVec Ideal ⟨2, ![15, 128]⟩ .f32) (x4 x5 x6 : FVec Ideal ⟨2, ![1, 128]⟩ .f32)
    (x : FVec Ideal ⟨3, ![32, 512, 128]⟩ .f32) (z : FVec Ideal ⟨3, ![512, 512, 128]⟩ .f32)
    (y : FVec Ideal ⟨2, ![512, 3]⟩ .f32) (w : FVec Ideal ⟨2, ![128, 15]⟩ .f32) (b g t : FVec Ideal ⟨1, ![128]⟩ .f32)
    (hy : ∀ i, ∃ q : ℝ, y i = (q : EReal)) (hw : ∀ i, ∃ q : ℝ, w i = (q : EReal)) (hb : ∀ i, ∃ q : ℝ, b i = (q : EReal))
    (hg : ∀ i, (∃ q : ℝ, g i = (q : EReal)) ∧ g i ≠ 0) (ht : ∀ i, ∃ q : ℝ, t i = (q : EReal))
    (n : Fin 32) (r s : Fin 512) (j : Fin 128)
    (h0 : ∀ a, x0 (ix2 a s) = y (ix2 s a)) (h1 : ∀ a, x1 (ix2 n a) = y (ix2 r a)) (h2 : ∀ k, x2 (ix2 0 k) = ((mid2 k : ℝ) : EReal))
    (h3 : ∀ k, x3 (ix2 k j) = w (ix2 j k)) (h4 : ∀ k, x4 (ix2 0 k) = b (ix1 k)) (h5 : ∀ k, x5 (ix2 0 k) = g (ix1 k))
    (h6 : ∀ k, x6 (ix2 0 k) = t (ix1 k)) (hx : ∀ k, x (ix3 n s k) = z (ix3 r s k)) :
    Cert.KernelIdeal.Launch.pairBlock (F := Ideal) x0 x1 x2 x3 x4 x5 x6 x (ix3 n s j)
      = Cert.ReferenceIdeal.Hand.pairOut (F := Ideal) z y w b g t (ix3 r s j) := by
  have hg0 := fun i => (hg i).2
  have hg1 := fun i => (hg i).1
  choose y' hy using hy
  obtain rfl : y = fun i => (y' i : EReal) := funext hy
  choose w' hw using hw
  choose b' hb using hb
  choose g' hg1 using hg1
  choose t' ht using ht
  have hgn : ∀ k : Fin 128, g' (ix1 k) ≠ 0 := fun k e => hg0 (ix1 k) (by rw [hg1, e, EReal.coe_zero])
  have hd : d2 x0 x1 n s = ((dist2 y' r s : ℝ) : EReal) := by
    unfold d2 dist2
    rw [h0, h0, h0, h1, h1, h1, Fin.sum_univ_three]
    simp only [← EReal.coe_sub, ← EReal.coe_mul, ← EReal.coe_add]
  obtain ⟨m, hm⟩ := exists_bin (Real.sqrt (dist2 y' r s))
  rw [pairOut_apply z y' w b g t r s j m hm, pairBlock_apply, hd]
  simp only [hx, h5, h2, h3, h4, h6, hg1, hw, hb, ht, ← EReal.coe_add]
  rw [emb_real (fun k => w' (ix2 j k) + b' (ix1 j) + t' (ix1 j)) (dist2_nonneg y' r s) m hm]
  obtain ⟨he, q, hq⟩ := pair_row (fun k => z (ix3 r s k)) (fun k => g' (ix1 k)) hgn j
  rw [he, hq, ← EReal.coe_add, ← EReal.coe_add, ← EReal.coe_add]
  congr 1
  ring

end Cert.Hand

end
-- ==== Proof.Value.Windows.lean ====
/- What each input window's block holds at an index, in the argument arrays. -/
module

public import proofs.«01_k».proof.Proof.Launch.Frame
public import proofs.«01_k».proof.Proof.Value.Pair
public import Idealize.ShloMosaic.Lib.Pipeline.ValueKit

@[expose] public section

set_option maxRecDepth 16384

noncomputable section

namespace Cert.Hand

open Cert.KernelIdeal Cert.KernelIdeal.Gen
open Idealize.ShloMosaic Idealize.ShloMosaic.TcCoe Idealize.ShloMosaic.Tactic

variable (m : (ℓ : Loc nD τ sig) → Buf (Elt Ideal) ℓ)

/-- The windows whose one block is the whole array, at every point. -/
theorem whole_index (t : Fin cfg0.N) : win0_0.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] :=
  (by decide +kernel : ∀ t : Fin grid0.N, win0_0.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0]) t

/-- The windows whose block is the point's 32 rows. -/
theorem row_index (t : Fin cfg0.N) : win0_1.index t = ![t.val, 0] ∧ win0_10.index t = ![t.val, 0, 0] ∧ win0_11.index t = ![t.val, 0, 0] :=
  (by decide +kernel : ∀ t : Fin grid0.N, win0_1.index t = ![t.val, 0] ∧ win0_10.index t = ![t.val, 0, 0]
    ∧ win0_11.index t = ![t.val, 0, 0]) t

/-- The row of the arrays that row `n` of the block at point `t` stands for. -/
def rowOf (t : Fin cfg0.N) (n : Fin 32) : Fin 512 := ⟨t.val * 32 + n.val, by
  have h : t.val < 16 := t.isLt
  have := n.isLt
  omega⟩

/-- The transposed coordinates. -/
theorem read_0 (c : Dev nD) (t : Fin cfg0.N) (a : Fin 3) (s : Fin 512) :
    (iblk m c 0 t : FVec Ideal S3x512 .f32) (ix2 a s) = (m ((c.tc : Thread nD τ).loc main_arg2) : FVec Ideal S512x3 .f32) (ix2 s a) := by
  blk_simp [iblk, V, (whole_index t).1]
  entry_read
  pointwise
  blk_ext [(whole_index t).1]

/-- The block of the coordinates' rows. -/
theorem read_1 (c : Dev nD) (t : Fin cfg0.N) (n : Fin 32) (a : Fin 3) :
    (iblk m c 1 t : FVec Ideal S32x3 .f32) (ix2 n a) = (m ((c.tc : Thread nD τ).loc main_arg2) : FVec Ideal S512x3 .f32) (ix2 (rowOf t n) a) := by
  rw [← V_main_arg2 m c]
  blk_ext [iblk, rowOf, (row_index t).1]

/-- The transposed weights. -/
theorem read_3 (c : Dev nD) (t : Fin cfg0.N) (k : Fin 15) (j : Fin 128) :
    (iblk m c 3 t : FVec Ideal S15x128 .f32) (ix2 k j) = (m ((c.tc : Thread nD τ).loc main_arg3) : FVec Ideal S128x15 .f32) (ix2 j k) := by
  blk_simp [iblk, V, (whole_index t).2.2.1]
  entry_read
  pointwise
  blk_ext [(whole_index t).2.2.1]

/-- The bias. -/
theorem read_4 (c : Dev nD) (t : Fin cfg0.N) (j : Fin 128) :
    (iblk m c 4 t : FVec Ideal S1x128 .f32) (ix2 0 j) = (m ((c.tc : Thread nD τ).loc main_arg4) : FVec Ideal S128 .f32) (ix1 j) := by
  blk_simp [iblk, V, (whole_index t).2.2.2.1]
  entry_read
  pointwise
  blk_ext [(whole_index t).2.2.2.1]

/-- The scale of the pair rows. -/
theorem read_5 (c : Dev nD) (t : Fin cfg0.N) (j : Fin 128) :
    (iblk m c 5 t : FVec Ideal S1x128 .f32) (ix2 0 j) = (m ((c.tc : Thread nD τ).loc main_arg5) : FVec Ideal S128 .f32) (ix1 j) := by
  blk_simp [iblk, V, (whole_index t).2.2.2.2.1]
  entry_read
  pointwise
  blk_ext [(whole_index t).2.2.2.2.1]

/-- The shift of the pair rows. -/
theorem read_6 (c : Dev nD) (t : Fin cfg0.N) (j : Fin 128) :
    (iblk m c 6 t : FVec Ideal S1x128 .f32) (ix2 0 j) = (m ((c.tc : Thread nD τ).loc main_arg6) : FVec Ideal S128 .f32) (ix1 j) := by
  blk_simp [iblk, V, (whole_index t).2.2.2.2.2.1]
  entry_read
  pointwise
  blk_ext [(whole_index t).2.2.2.2.2.1]

/-- The msa rows, all of them. -/
theorem read_7 (c : Dev nD) (t : Fin cfg0.N) (r : Fin 512) (j : Fin 256) :
    (iblk m c 7 t : FVec Ideal S512x256 .f32) (ix2 r j) = (m ((c.tc : Thread nD τ).loc main_arg0) : FVec Ideal S512x256 .f32) (ix2 r j) := by
  rw [← V_main_arg0 m c]
  blk_ext [iblk, (whole_index t).2.2.2.2.2.2.1]

/-- The scale of the msa rows. -/
theorem read_8 (c : Dev nD) (t : Fin cfg0.N) (j : Fin 256) :
    (iblk m c 8 t : FVec Ideal S1x256 .f32) (ix2 0 j) = (m ((c.tc : Thread nD τ).loc main_arg7) : FVec Ideal S256 .f32) (ix1 j) := by
  blk_simp [iblk, V, (whole_index t).2.2.2.2.2.2.2.1]
  entry_read
  pointwise
  blk_ext [(whole_index t).2.2.2.2.2.2.2.1]

/-- The shift of the msa rows. -/
theorem read_9 (c : Dev nD) (t : Fin cfg0.N) (j : Fin 256) :
    (iblk m c 9 t : FVec Ideal S1x256 .f32) (ix2 0 j) = (m ((c.tc : Thread nD τ).loc main_arg8) : FVec Ideal S256 .f32) (ix1 j) := by
  blk_simp [iblk, V, (whole_index t).2.2.2.2.2.2.2.2]
  entry_read
  pointwise
  blk_ext [(whole_index t).2.2.2.2.2.2.2.2]

/-- The block of the pair array's rows. -/
theorem read_10 (c : Dev nD) (t : Fin cfg0.N) (n : Fin 32) (s : Fin 512) (j : Fin 128) :
    (iblk m c 10 t : FVec Ideal S32x512x128 .f32) (ix3 n s j)
      = (m ((c.tc : Thread nD τ).loc main_arg1) : FVec Ideal S512x512x128 .f32) (ix3 (rowOf t n) s j) := by
  rw [← V_main_arg1 m c]
  blk_ext [iblk, rowOf, (row_index t).2.1]

/-- The literal table the kernel is printed with, as real numbers. -/
theorem lit_mid2 (k : Fin 15) : Ideal.ofBits FTy.f32 (lit0 (S15.rowMajor (ix1 k))) = ((mid2 k : ℝ) : EReal) := by
  have hk : (S15.rowMajor (ix1 k)) = k := by
    refine Fin.ext ?_
    show (Shape.rowMajorPi ![15] (ix1 k)).val = k.val
    rw [Shape.rowMajorPi_succ_val, Shape.rowMajorPi_zero]
    simp [ix1]
  rw [hk]
  fin_cases k <;> simp [lit0, mid2, mid, Ideal.ofBits, Ideal.ieee, -EReal.coe_mul] <;> norm_num

/-- The table of squared midpoints. -/
theorem read_2 (c : Dev nD) (t : Fin cfg0.N) (k : Fin 15) :
    (iblk m c 2 t : FVec Ideal S1x15 .f32) (ix2 0 k) = ((mid2 k : ℝ) : EReal) := by
  blk_simp [iblk, V, (whole_index t).2.1]
  entry_read
  pointwise
  have he : ((View.whole main_v1).slice (win0_2.rect t)).emb (ix2 0 k) 1 = k := by
    refine Fin.ext ?_
    show (((win0_2.blk t).view.emb (ix2 0 k) 1 : Fin _) : ℕ) = _
    blk_simp [(whole_index t).2.1]
  rw [he]
  exact lit_mid2 k

end Cert.Hand

end
-- ==== Proof.Value.Msa.lean ====
/- The first result, entry by entry.

   What the kernel's block of the first result holds at an index, what the reference's first result holds there, and their
   equality where the array is real. -/
module

public import proofs.«01_k».proof.Proof.Launch.Setup
public import proofs.«01_k».proof.Proof.Ref.Run
public import proofs.«01_k».proof.Proof.Math.Norm
public import Idealize.ShloMosaic.Lib.Pointwise

@[expose] public section

set_option maxRecDepth 16384

noncomputable section

namespace Cert.Hand

open Idealize.ShloMosaic

/-- The kernel's block at an index: the entry less the mean, times the reciprocal root of the guarded variance, scaled and
    shifted; the variance is the mean of the squares less the square of the mean. -/
theorem msaBlock_apply (x : FVec Ideal ⟨2, ![512, 256]⟩ .f32) (g t : FVec Ideal ⟨2, ![1, 256]⟩ .f32) (r : Fin 512) (j : Fin 256) :
    Cert.KernelIdeal.Launch.msaBlock (F := Ideal) x g t (ix2 r j)
      = (x (ix2 r j) - ∑ k : Fin 256, x (ix2 r k) * Ideal.ofBits .bf16 0x3B80#16)
          * Ideal.rsqrt ((∑ k : Fin 256, x (ix2 r k) * x (ix2 r k) * Ideal.ofBits .bf16 0x3B80#16)
              - (∑ k : Fin 256, x (ix2 r k) * Ideal.ofBits .bf16 0x3B80#16)
                * (∑ k : Fin 256, x (ix2 r k) * Ideal.ofBits .bf16 0x3B80#16) + Ideal.ofBits .f32 0x3727C5AC#32)
          * g (ix2 0 j) + t (ix2 0 j) := by
  pointwise [Cert.KernelIdeal.Launch.msaBlock, Cert.KernelIdeal.Gen.k0_pay1]

/-- The reference's first result at an index. -/
theorem msaNorm_apply (x : FVec Ideal ⟨2, ![512, 256]⟩ .f32) (g t : FVec Ideal ⟨1, ![256]⟩ .f32) (r : Fin 512) (j : Fin 256) :
    Cert.ReferenceIdeal.Hand.msaNorm (F := Ideal) x g t (ix2 r j)
      = normed (Ideal.ofBits .f32 0x43800000#32) (Ideal.ofBits .f32 0x3727C5AC#32) (fun k => x (ix2 r k)) j * g (ix1 j)
        + t (ix1 j) := by
  pointwise [Cert.ReferenceIdeal.Hand.msaNorm, Cert.ReferenceIdeal.Hand.msaCentred, Cert.ReferenceIdeal.Hand.msaMean, normed]

/-- Where the array is real the kernel's block is the reference's first result. -/
theorem msa_eq (x : FVec Ideal ⟨2, ![512, 256]⟩ .f32) (g' t' : FVec Ideal ⟨2, ![1, 256]⟩ .f32) (g t : FVec Ideal ⟨1, ![256]⟩ .f32)
    (hx : ∀ i, ∃ r : ℝ, x i = (r : EReal)) (hg : ∀ j, g' (ix2 0 j) = g (ix1 j)) (ht : ∀ j, t' (ix2 0 j) = t (ix1 j)) :
    Cert.KernelIdeal.Launch.msaBlock (F := Ideal) x g' t' = Cert.ReferenceIdeal.Hand.msaNorm (F := Ideal) x g t := by
  funext i
  obtain ⟨r, j, rfl⟩ : ∃ (a : Fin 512) (b : Fin 256), i = ix2 a b := ⟨i 0, i 1, eq_ix2 i⟩
  choose y hy using hx
  obtain rfl : x = fun i => (y i : EReal) := funext hy
  rw [msaBlock_apply, msaNorm_apply, hg, ht, c256, c256inv, cEps, ← msa_row (fun k => y (ix2 r k)) j]

end Cert.Hand

end
-- ==== Proof.Value.Arrays.lean ====
/- The two result arrays after the kernel's run, as the reference's two terms of the argument arrays. -/
module

public import proofs.«01_k».proof.Proof.Value.Windows
public import proofs.«01_k».proof.Proof.Value.Msa

@[expose] public section

set_option maxRecDepth 16384

noncomputable section

namespace Cert.Hand

open Cert.KernelIdeal Cert.KernelIdeal.Gen
open Idealize.ShloMosaic Idealize.ShloMosaic.TcCoe Idealize.ShloMosaic.Tactic
open Cert.KernelIdeal.Launch (dats pairAt msaAt pairBlock msaBlock firstPoint)

variable (m : (ℓ : Loc nD τ sig) → Buf (Elt Ideal) ℓ)

/-- The argument arrays on a core, each at its own type. -/
abbrev msaRow (c : Dev nD) : FVec Ideal S512x256 .f32 := m ((c.tc : Thread nD τ).loc main_arg0)
@[inherit_doc msaRow] abbrev pairRep (c : Dev nD) : FVec Ideal S512x512x128 .f32 := m ((c.tc : Thread nD τ).loc main_arg1)
@[inherit_doc msaRow] abbrev coords (c : Dev nD) : FVec Ideal S512x3 .f32 := m ((c.tc : Thread nD τ).loc main_arg2)
@[inherit_doc msaRow] abbrev weights (c : Dev nD) : FVec Ideal S128x15 .f32 := m ((c.tc : Thread nD τ).loc main_arg3)
@[inherit_doc msaRow] abbrev bias (c : Dev nD) : FVec Ideal S128 .f32 := m ((c.tc : Thread nD τ).loc main_arg4)
@[inherit_doc msaRow] abbrev pairScale (c : Dev nD) : FVec Ideal S128 .f32 := m ((c.tc : Thread nD τ).loc main_arg5)
@[inherit_doc msaRow] abbrev pairShift (c : Dev nD) : FVec Ideal S128 .f32 := m ((c.tc : Thread nD τ).loc main_arg6)
@[inherit_doc msaRow] abbrev msaScale (c : Dev nD) : FVec Ideal S256 .f32 := m ((c.tc : Thread nD τ).loc main_arg7)
@[inherit_doc msaRow] abbrev msaShift (c : Dev nD) : FVec Ideal S256 .f32 := m ((c.tc : Thread nD τ).loc main_arg8)

/-- The msa result after the run: the first point stores it whole and the last point writes it back. -/
theorem msa_array (c : Dev nD) (hx : ∀ i, ∃ r : ℝ, msaRow m c i = (r : EReal)) :
    (dats m 0 c).arrAt 12 cfg0.N = Cert.ReferenceIdeal.Hand.msaNorm (F := Ideal) (msaRow m c) (msaScale m c) (msaShift m c) := by
  have h0 : (iblk m c 7 firstPoint : FVec Ideal S512x256 .f32) = msaRow m c := by
    funext i
    obtain ⟨r, j, rfl⟩ : ∃ (r : Fin 512) (j : Fin 256), i = ix2 r j := ⟨i 0, i 1, eq_ix2 i⟩
    exact read_7 m c firstPoint r j
  have hm : msaAt m c = Cert.ReferenceIdeal.Hand.msaNorm (F := Ideal) (msaRow m c) (msaScale m c) (msaShift m c) := by
    unfold msaAt
    rw [h0]
    exact msa_eq _ _ _ _ _ hx (read_8 m c firstPoint) (read_9 m c firstPoint)
  refine (dats m 0 c).arrAt_eq_of_after_last 12 t0_15 (by decide +kernel) _ fun j => ?_
  rw [Cert.KernelIdeal.Launch.after_12, hm]
  blk_simp
  rfl

/-- The pair result after the run: every point writes back its block of 32 rows. -/
theorem pair_array (c : Dev nD)
    (hy : ∀ i, ∃ q : ℝ, coords m c i = (q : EReal)) (hw : ∀ i, ∃ q : ℝ, weights m c i = (q : EReal))
    (hb : ∀ i, ∃ q : ℝ, bias m c i = (q : EReal))
    (hg : ∀ i, (∃ q : ℝ, pairScale m c i = (q : EReal)) ∧ pairScale m c i ≠ 0)
    (ht : ∀ i, ∃ q : ℝ, pairShift m c i = (q : EReal)) :
    (dats m 0 c).arrAt 11 cfg0.N
      = Cert.ReferenceIdeal.Hand.pairOut (F := Ideal) (pairRep m c) (coords m c) (weights m c) (bias m c) (pairScale m c) (pairShift m c) := by
  refine (dats m 0 c).arrAt_eq_of_covers 11 _ (by decide +kernel) fun t hf y => ?_
  blk_simp
  rw [Cert.KernelIdeal.Launch.after_11]
  obtain ⟨n, s, j, rfl⟩ : ∃ (n : Fin 32) (s : Fin 512) (j : Fin 128), y = ix3 n s j := ⟨y 0, y 1, y 2, eq_ix3 y⟩
  have he : ((cfg0.win 11).blk t).view.emb (ix3 n s j) = ix3 (rowOf t n) s j := by
    blk_ext [rowOf, (row_index t).2.2]
  rw [he]
  exact pair_eq _ _ _ _ _ _ _ _ _ _ _ _ _ _ hy hw hb hg ht n (rowOf t n) s j (fun a => read_0 m c t a s)
    (fun a => read_1 m c t n a) (fun k => read_2 m c t k) (fun k => read_3 m c t k j) (fun k => read_4 m c t k)
    (fun k => read_5 m c t k) (fun k => read_6 m c t k) (fun k => read_10 m c t n s k)

end Cert.Hand

end
-- ==== Proof.Value.Condition.lean ====
/- What the precondition gives: entries that are real numbers, and scales that are not zero. -/
module

public import proofs.«01_k».proof.Pre_finite_and_scaled
public import proofs.«01_k».proof.Proof.Gen.Pre_finite_and_scaled
public import proofs.«01_k».proof.Proof.Math.Reals
public import Idealize.ShloMosaic.Lib.Pointwise

@[expose] public section

set_option maxRecDepth 16384

noncomputable section

namespace Cert.Hand

open Idealize.ShloMosaic
open Cert.Pre_finite_and_scaled

/-- The test "the absolute value lies below the constant" answers one for real numbers only. -/
theorem real_of_test {x : EReal}
    (h : BitVec.ofBool (decide ((FloatOps.absf (F := Ideal) (φ := .f32) x : EReal) < Ideal.ofBits .f32 0x7F800000#32)) = 1#1) :
    ∃ r : ℝ, x = (r : EReal) := by
  rw [cInf, Ideal.absf_def] at h
  by_cases hx : max x (-x) < ⊤
  · exact real_of_abs_lt_top hx
  · rw [decide_eq_false hx] at h
    exact absurd h (by decide)

/-- Two one-bit answers whose conjunction is one are both one. -/
theorem both_of_and {p q : Bool} (h : IntOp.andi (BitVec.ofBool p) (BitVec.ofBool q) = 1#1) :
    BitVec.ofBool p = 1#1 ∧ q = true := by
  revert h
  cases p <;> cases q <;> decide

variable (a0 : FVec Ideal S512x256 .f32) (a1 : FVec Ideal S512x512x128 .f32) (a2 : FVec Ideal S512x3 .f32)
  (a3 : FVec Ideal S128x15 .f32) (a4 a5 a6 : FVec Ideal S128 .f32) (a7 a8 : FVec Ideal S256 .f32)

/-- The msa row has real entries. -/
theorem real_0 (h : (fn (F := Ideal) a0 a1 a2 a3 a4 a5 a6 a7 a8).1 = fun _ => 1#1) (i) : ∃ r : ℝ, a0 i = (r : EReal) := by
  have h := congrFun h i
  pointwise [fn, fn_part1] at h
  exact real_of_test h

/-- The coordinates are real. -/
theorem real_2 (h : (fn (F := Ideal) a0 a1 a2 a3 a4 a5 a6 a7 a8).2.1 = fun _ => 1#1) (i) : ∃ r : ℝ, a2 i = (r : EReal) := by
  have h := congrFun h i
  pointwise [fn, fn_part1] at h
  exact real_of_test h

/-- The weights are real. -/
theorem real_3 (h : (fn (F := Ideal) a0 a1 a2 a3 a4 a5 a6 a7 a8).2.2.1 = fun _ => 1#1) (i) : ∃ r : ℝ, a3 i = (r : EReal) := by
  have h := congrFun h i
  pointwise [fn, fn_part1] at h
  exact real_of_test h

/-- The biases are real. -/
theorem real_4 (h : (fn (F := Ideal) a0 a1 a2 a3 a4 a5 a6 a7 a8).2.2.2.1 = fun _ => 1#1) (i) : ∃ r : ℝ, a4 i = (r : EReal) := by
  have h := congrFun h i
  pointwise [fn, fn_part1] at h
  exact real_of_test h

/-- The shifts of the pair rows are real. -/
theorem real_6 (h : (fn (F := Ideal) a0 a1 a2 a3 a4 a5 a6 a7 a8).2.2.2.2.2 = fun _ => 1#1) (i) : ∃ r : ℝ, a6 i = (r : EReal) := by
  have h := congrFun h i
  pointwise [fn, fn_part1] at h
  exact real_of_test h

/-- The scales of the pair rows are real and not zero. -/
theorem scaled_5 (h : (fn (F := Ideal) a0 a1 a2 a3 a4 a5 a6 a7 a8).2.2.2.2.1 = fun _ => 1#1) (i) :
    (∃ r : ℝ, a5 i = (r : EReal)) ∧ a5 i ≠ 0 := by
  have h := congrFun h i
  pointwise [fn, fn_part1] at h
  obtain ⟨h1, h2⟩ := both_of_and h
  exact ⟨real_of_test h1, of_decide_eq_true h2⟩

end Cert.Hand

end
-- ==== Proof.Value.Run.lean ====
/- The kernel's run under the precondition: both results are the reference's two terms of the arguments, and the arguments
   are unchanged. -/
module

public import proofs.«01_k».proof.Defs
public import proofs.«01_k».proof.Proof.Value.Arrays
public import proofs.«01_k».proof.Proof.Value.Condition

@[expose] public section

set_option maxRecDepth 16384

noncomputable section

namespace Cert.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Under the precondition the kernel terminates with the reference's two terms in its result arrays. -/
theorem kernel_results (h : Cert.Pre_KernelIdeal_finite_and_scaled (hPre_finite_and_scaled := Cert.Pre_finite_and_scaled.Gen.facts) m) :
    θ_run (Cert.KernelIdeal.defs (F := Ideal)) (onTc (τ := τ) (main (F := Ideal))) ⟨m, fun _ => 0, ρ⟩ fun r => ∀ c : Dev nD,
      r.2.mem ((c.tc : Thread nD τ).loc main_v8_1)
          = Cert.ReferenceIdeal.Hand.msaNorm (F := Ideal) (msaRow m c) (msaScale m c) (msaShift m c)
      ∧ r.2.mem ((c.tc : Thread nD τ).loc main_v8_0)
          = Cert.ReferenceIdeal.Hand.pairOut (F := Ideal) (pairRep m c) (coords m c) (weights m c) (bias m c) (pairScale m c) (pairShift m c) :=
  (θ_run _ _ _).mono (fun r hr c => by
    obtain ⟨e0, e2, e3, e4, e5, e6⟩ := h c
    exact ⟨((hr.1 c).1 12).trans (msa_array m c (real_0 _ _ _ _ _ _ _ _ _ e0)),
      ((hr.1 c).1 11).trans (pair_array m c (real_2 _ _ _ _ _ _ _ _ _ e2) (real_3 _ _ _ _ _ _ _ _ _ e3)
        (real_4 _ _ _ _ _ _ _ _ _ e4) (scaled_5 _ _ _ _ _ _ _ _ _ e5) (real_6 _ _ _ _ _ _ _ _ _ e6))⟩)
    (Cert.KernelIdeal.Launch.run_launch m ρ)

end Cert.Hand

end
-- ==== Proof.lean ====
/- The certificate: the frames of the printed kernel, of the idealized kernel and of the reference, and the equation of the
   two results of the idealized kernel with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_and_scaled
public import proofs.«01_k».proof.Proof.Printed.Frame
public import proofs.«01_k».proof.Proof.Launch.Frame
public import proofs.«01_k».proof.Proof.Ref.Run
public import proofs.«01_k».proof.Proof.Value.Run
public import Idealize.ShloMosaic.Adequacy
public import Idealize.ShloMosaic.Init

@[expose] public section

noncomputable section

namespace Cert.Proof

open Idealize.ShloMosaic Idealize.SL.Sem

/-- The reference's frame: it terminates, its arguments end unchanged and every counter ends at zero. -/
theorem reference_frame : Cert.quiescent_ReferenceIdeal (hReferenceIdeal := Cert.ReferenceIdeal.Gen.facts) := fun m ρ _ =>
  (θ_run Cert.ReferenceIdeal.defs _ _).mono (fun r h => ⟨fun c => (h.1 c).2.2, h.2⟩)
    (Cert.ReferenceIdeal.Hand.run (F := Ideal) m ρ)

/-- The value claim: under the precondition, from memories that agree on the arguments, the idealized kernel and the
    reference end with equal results, both of them, and with their arguments unchanged. -/
theorem results_equal : Cert.algebraic_KernelIdeal_ReferenceIdeal_pre_finite_and_scaled
    (hKernelIdeal := Cert.KernelIdeal.Gen.facts) (hReferenceIdeal := Cert.ReferenceIdeal.Gen.facts)
    (hPre_finite_and_scaled := Cert.Pre_finite_and_scaled.Gen.facts) := fun m g m' g' hpre hagree =>
  ⟨fun c => Cert.ReferenceIdeal.Hand.msaNorm (F := Ideal) (Cert.Hand.msaRow m c) (Cert.Hand.msaScale m c) (Cert.Hand.msaShift m c),
    fun c => Cert.ReferenceIdeal.Hand.pairOut (F := Ideal) (Cert.Hand.pairRep m c) (Cert.Hand.coords m c) (Cert.Hand.weights m c)
      (Cert.Hand.bias m c) (Cert.Hand.pairScale m c) (Cert.Hand.pairShift m c),
    (θ_run _ _ _).mono (fun r h c => ⟨(h.1 c).1, (h.1 c).2, h.2.1 c⟩)
      (θ_run_and (Cert.Hand.kernel_results m g hpre) (Cert.KernelIdeal.Launch.frame m g)),
    (θ_run _ _ _).mono (fun r h c => by
        obtain ⟨e0, e1, e2, e3, e4, e5, e6, e7, e8⟩ := hagree c
        obtain ⟨h0, h1, hargs⟩ := h.1 c
        refine ⟨h0.trans ?_, h1.trans ?_, hargs⟩
        · rw [e0, e7, e8]
        · rw [e1, e2, e3, e4, e5, e6])
      (Cert.ReferenceIdeal.Hand.run (F := Ideal) m' g')⟩

/-- The certificate's claim. -/
theorem claim : Cert.Claim :=
  ⟨Cert.Kernel.Gen.facts, Cert.KernelIdeal.Gen.facts, Cert.ReferenceIdeal.Gen.facts, Cert.Pre_finite_and_scaled.Gen.facts,
    fun m ρ _ => Cert.Kernel.Launch.frame m ρ,
    fun m ρ _ => Cert.KernelIdeal.Launch.frame m ρ,
    fun m ρ _ => Cert.KernelIdeal.Launch.frame m ρ,
    reference_frame,
    fun m ρ _ => reference_frame m ρ trivial,
    trivial,
    results_equal⟩

end Cert.Proof

end
